-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S9 : Shape := ⟨1, ![9]⟩
abbrev S256x512 : Shape := ⟨2, ![256, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S16384x128 : Shape := ⟨2, ![16384, 128]⟩
abbrev S2x4096x256 : Shape := ⟨3, ![2, 4096, 256]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S1x512x128 : Shape := ⟨3, ![1, 512, 128]⟩
abbrev S1x512x256 : Shape := ⟨3, ![1, 512, 256]⟩
abbrev S512x256 : Shape := ⟨2, ![512, 256]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S9, .i32⟩
  | .hbm, ⟨2, _⟩ => ⟨S256x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x512, .f32⟩
  | .hbm, ⟨7, _⟩ => ⟨S1x128, .f32⟩
  | .hbm, ⟨8, _⟩ => ⟨S16384x128, .f32⟩
  | .local _ .vmem, ⟨0, _⟩ => ⟨S256x512, .f32⟩
  | .local _ .vmem, ⟨1, _⟩ => ⟨S1x512, .f32⟩
  | .local _ .vmem, ⟨2, _⟩ => ⟨S512x128, .f32⟩
  | .local _ .vmem, ⟨3, _⟩ => ⟨S1x128, .f32⟩
  | .local _ .vmem, ⟨4, _⟩ => ⟨S2x4096x256, .f32⟩
  | .local _ .vmem, ⟨5, _⟩ => ⟨S2x4096x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c4_i32 : BitVec 32 := 4#32
  let v5 : BitVec 1 := Scalar.cmpi .slt v4 c4_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let c1_i32_153 : BitVec 32 := 1#32
  let arg0 : BitVec 32 := BitVec.ofNat 32 (i 0).val
  let c2_i32 : BitVec 32 := 2#32
  let v0 : BitVec 32 := Scalar.remsi arg0 c2_i32
  let v285 : BitVec 32 := Scalar.subi c1_i32_153 v0
  ![v285.toNat]
def k0_off2 (i : grid0.Coords) : Fin 3 → Nat :=
  let c1_i32_153 : BitVec 32 := 1#32
  let arg0 : BitVec 32 := BitVec.ofNat 32 (i 0).val
  let c2_i32 : BitVec 32 := 2#32
  let v0 : BitVec 32 := Scalar.remsi arg0 c2_i32
  let v285 : BitVec 32 := Scalar.subi c1_i32_153 v0
  let c0_i32_155 : BitVec 32 := 0#32
  let c0_i32_156 : BitVec 32 := 0#32
  ![v285.toNat, 0, 0]
def k0_off3 (i : grid0.Coords) : Fin 2 → Nat :=
  let arg0 : BitVec 32 := BitVec.ofNat 32 (i 0).val
  let c1_i32_152 : BitVec 32 := 1#32
  let v284 : BitVec 32 := Scalar.addi arg0 c1_i32_152
  let c4096_i32_154 : BitVec 32 := 4096#32
  let v286 : BitVec 32 := Scalar.muli v284 c4096_i32_154
  let c0_i32_157 : BitVec 32 := 0#32
  ![v286.toNat, 0]
def k0_cond3 (i : grid0.Coords) : BitVec 1 :=
  let arg0 : BitVec 32 := BitVec.ofNat 32 (i 0).val
  let c2_i32_2 : BitVec 32 := 2#32
  let v8 : BitVec 1 := Scalar.cmpi .sge arg0 c2_i32_2
  let v9 : BitVec 32 := Scalar.extui v8
  let c0_i32_3 : BitVec 32 := 0#32
  let v10 : BitVec 1 := Scalar.cmpi .ne v9 c0_i32_3
  v10

def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) (c0_i32_154 : BitVec 32) : Fin 2 → Nat :=
  let arg0 : BitVec 32 := BitVec.ofNat 32 (i 0).val
  let c2_i32_152 : BitVec 32 := 2#32
  let v284 : BitVec 32 := Scalar.subi arg0 c2_i32_152
  let c4096_i32_153 : BitVec 32 := 4096#32
  let v285 : BitVec 32 := Scalar.muli v284 c4096_i32_153
  let v286 : BitVec 32 := Scalar.addi v285 c0_i32_154
  let c0_i32_155 : BitVec 32 := 0#32
  ![v286.toNat, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_156 : BitVec 32 := 0#32
  let c0_i32_157 : BitVec 32 := 0#32
  ![v0.toNat, 0, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c512_i32_162 : BitVec 32 := 512#32
  let c0_i32_163 : BitVec 32 := 0#32
  ![v0.toNat, 512, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c1024_i32_168 : BitVec 32 := 1024#32
  let c0_i32_169 : BitVec 32 := 0#32
  ![v0.toNat, 1024, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c1536_i32_174 : BitVec 32 := 1536#32
  let c0_i32_175 : BitVec 32 := 0#32
  ![v0.toNat, 1536, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c2048_i32_180 : BitVec 32 := 2048#32
  let c0_i32_181 : BitVec 32 := 0#32
  ![v0.toNat, 2048, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c2560_i32_186 : BitVec 32 := 2560#32
  let c0_i32_187 : BitVec 32 := 0#32
  ![v0.toNat, 2560, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c3072_i32_192 : BitVec 32 := 3072#32
  let c0_i32_193 : BitVec 32 := 0#32
  ![v0.toNat, 3072, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c3584_i32_198 : BitVec 32 := 3584#32
  let c0_i32_199 : BitVec 32 := 0#32
  ![v0.toNat, 3584, 0]
def k0_off14 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off15 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off16 (i : grid0.Coords) : Fin 2 → Nat :=
  let arg0 : BitVec 32 := BitVec.ofNat 32 (i 0).val
  let c4096_i32 : BitVec 32 := 4096#32
  let v11 : BitVec 32 := Scalar.muli arg0 c4096_i32
  let c0_i32_6 : BitVec 32 := 0#32
  ![v11.toNat, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v17 : Index := Scalar.indexCast v0
  let c0 : Index := 0#32
  let c0_7 : Index := 0#32
  ![v17.toNat, 0, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v39 : Index := Scalar.indexCast v0
  let c0_18 : Index := 0#32
  let c0_19 : Index := 0#32
  ![v39.toNat, 0, 0]
def k0_off19 (i : grid0.Coords) (c0_i32_21 : BitVec 32) : Fin 2 → Nat :=
  let arg0 : BitVec 32 := BitVec.ofNat 32 (i 0).val
  let c4096_i32_20 : BitVec 32 := 4096#32
  let v43 : BitVec 32 := Scalar.muli arg0 c4096_i32_20
  let v44 : BitVec 32 := Scalar.addi v43 c0_i32_21
  let c0_i32_22 : BitVec 32 := 0#32
  ![v44.toNat, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_23 : BitVec 32 := 0#32
  let c0_i32_24 : BitVec 32 := 0#32
  ![v0.toNat, 0, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v50 : Index := Scalar.indexCast v0
  let c512 : Index := 512#32
  let c0_25 : Index := 0#32
  ![v50.toNat, 512, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c512_37 : Index := 512#32
  let c0_38 : Index := 0#32
  ![v72.toNat, 512, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let c512_i32_41 : BitVec 32 := 512#32
  let c0_i32_42 : BitVec 32 := 0#32
  ![v0.toNat, 512, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v83 : Index := Scalar.indexCast v0
  let c1024 : Index := 1024#32
  let c0_43 : Index := 0#32
  ![v83.toNat, 1024, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v105 : Index := Scalar.indexCast v0
  let c1024_55 : Index := 1024#32
  let c0_56 : Index := 0#32
  ![v105.toNat, 1024, 0]
def k0_off26 (i : grid0.Coords) : Fin 3 → Nat :=
  let arg0 : BitVec 32 := BitVec.ofNat 32 (i 0).val
  let c2_i32 : BitVec 32 := 2#32
  let v0 : BitVec 32 := Scalar.remsi arg0 c2_i32
  let c1024_i32_59 : BitVec 32 := 1024#32
  let c0_i32_60 : BitVec 32 := 0#32
  ![v0.toNat, 1024, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v116 : Index := Scalar.indexCast v0
  let c1536 : Index := 1536#32
  let c0_61 : Index := 0#32
  ![v116.toNat, 1536, 0]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v138 : Index := Scalar.indexCast v0
  let c1536_73 : Index := 1536#32
  let c0_74 : Index := 0#32
  ![v138.toNat, 1536, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let c1536_i32_77 : BitVec 32 := 1536#32
  let c0_i32_78 : BitVec 32 := 0#32
  ![v0.toNat, 1536, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v149 : Index := Scalar.indexCast v0
  let c2048 : Index := 2048#32
  let c0_79 : Index := 0#32
  ![v149.toNat, 2048, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v171 : Index := Scalar.indexCast v0
  let c2048_91 : Index := 2048#32
  let c0_92 : Index := 0#32
  ![v171.toNat, 2048, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let c2048_i32_95 : BitVec 32 := 2048#32
  let c0_i32_96 : BitVec 32 := 0#32
  ![v0.toNat, 2048, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v182 : Index := Scalar.indexCast v0
  let c2560 : Index := 2560#32
  let c0_97 : Index := 0#32
  ![v182.toNat, 2560, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v204 : Index := Scalar.indexCast v0
  let c2560_109 : Index := 2560#32
  let c0_110 : Index := 0#32
  ![v204.toNat, 2560, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let c2560_i32_113 : BitVec 32 := 2560#32
  let c0_i32_114 : BitVec 32 := 0#32
  ![v0.toNat, 2560, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v215 : Index := Scalar.indexCast v0
  let c3072 : Index := 3072#32
  let c0_115 : Index := 0#32
  ![v215.toNat, 3072, 0]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v237 : Index := Scalar.indexCast v0
  let c3072_127 : Index := 3072#32
  let c0_128 : Index := 0#32
  ![v237.toNat, 3072, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let c3072_i32_131 : BitVec 32 := 3072#32
  let c0_i32_132 : BitVec 32 := 0#32
  ![v0.toNat, 3072, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v248 : Index := Scalar.indexCast v0
  let c3584 : Index := 3584#32
  let c0_133 : Index := 0#32
  ![v248.toNat, 3584, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v270 : Index := Scalar.indexCast v0
  let c3584_145 : Index := 3584#32
  let c0_146 : Index := 0#32
  ![v270.toNat, 3584, 0]
def k0_off41 (i : grid0.Coords) : Fin 3 → Nat :=
  let arg0 : BitVec 32 := BitVec.ofNat 32 (i 0).val
  let c2_i32 : BitVec 32 := 2#32
  let v0 : BitVec 32 := Scalar.remsi arg0 c2_i32
  let c3584_i32_149 : BitVec 32 := 3584#32
  let c0_i32_150 : BitVec 32 := 0#32
  ![v0.toNat, 3584, 0]
def k0_cond4 (i : grid0.Coords) : BitVec 1 :=
  let arg0 : BitVec 32 := BitVec.ofNat 32 (i 0).val
  let c3_i32 : BitVec 32 := 3#32
  let v281 : BitVec 1 := Scalar.cmpi .eq arg0 c3_i32
  let v282 : BitVec 32 := Scalar.extui v281
  let c0_i32_151 : BitVec 32 := 0#32
  let v283 : BitVec 1 := Scalar.cmpi .ne v282 c0_i32_151
  v283

def k0_off42 (i : grid0.Coords) : Fin 1 → Nat :=
  let c1_i32_153 : BitVec 32 := 1#32
  let arg0 : BitVec 32 := BitVec.ofNat 32 (i 0).val
  let c2_i32 : BitVec 32 := 2#32
  let v0 : BitVec 32 := Scalar.remsi arg0 c2_i32
  let v285 : BitVec 32 := Scalar.subi c1_i32_153 v0
  ![v285.toNat]
def k0_off43 (i : grid0.Coords) (c0_i32_155 : BitVec 32) : Fin 2 → Nat :=
  let arg0 : BitVec 32 := BitVec.ofNat 32 (i 0).val
  let c1_i32_152 : BitVec 32 := 1#32
  let v284 : BitVec 32 := Scalar.subi arg0 c1_i32_152
  let c4096_i32_154 : BitVec 32 := 4096#32
  let v286 : BitVec 32 := Scalar.muli v284 c4096_i32_154
  let v287 : BitVec 32 := Scalar.addi v286 c0_i32_155
  let c0_i32_156 : BitVec 32 := 0#32
  ![v287.toNat, 0]
def k0_off44 (i : grid0.Coords) : Fin 3 → Nat :=
  let c1_i32_153 : BitVec 32 := 1#32
  let arg0 : BitVec 32 := BitVec.ofNat 32 (i 0).val
  let c2_i32 : BitVec 32 := 2#32
  let v0 : BitVec 32 := Scalar.remsi arg0 c2_i32
  let v285 : BitVec 32 := Scalar.subi c1_i32_153 v0
  let c0_i32_157 : BitVec 32 := 0#32
  let c0_i32_158 : BitVec 32 := 0#32
  ![v285.toNat, 0, 0]
def k0_off45 (i : grid0.Coords) : Fin 3 → Nat :=
  let c1_i32_160 : BitVec 32 := 1#32
  let arg0 : BitVec 32 := BitVec.ofNat 32 (i 0).val
  let c2_i32 : BitVec 32 := 2#32
  let v0 : BitVec 32 := Scalar.remsi arg0 c2_i32
  let v294 : BitVec 32 := Scalar.subi c1_i32_160 v0
  let c512_i32_164 : BitVec 32 := 512#32
  let c0_i32_165 : BitVec 32 := 0#32
  ![v294.toNat, 512, 0]
def k0_off46 (i : grid0.Coords) : Fin 3 → Nat :=
  let c1_i32_167 : BitVec 32 := 1#32
  let arg0 : BitVec 32 := BitVec.ofNat 32 (i 0).val
  let c2_i32 : BitVec 32 := 2#32
  let v0 : BitVec 32 := Scalar.remsi arg0 c2_i32
  let v303 : BitVec 32 := Scalar.subi c1_i32_167 v0
  let c1024_i32_171 : BitVec 32 := 1024#32
  let c0_i32_172 : BitVec 32 := 0#32
  ![v303.toNat, 1024, 0]
def k0_off47 (i : grid0.Coords) : Fin 3 → Nat :=
  let c1_i32_174 : BitVec 32 := 1#32
  let arg0 : BitVec 32 := BitVec.ofNat 32 (i 0).val
  let c2_i32 : BitVec 32 := 2#32
  let v0 : BitVec 32 := Scalar.remsi arg0 c2_i32
  let v312 : BitVec 32 := Scalar.subi c1_i32_174 v0
  let c1536_i32_178 : BitVec 32 := 1536#32
  let c0_i32_179 : BitVec 32 := 0#32
  ![v312.toNat, 1536, 0]
def k0_off48 (i : grid0.Coords) : Fin 3 → Nat :=
  let c1_i32_181 : BitVec 32 := 1#32
  let arg0 : BitVec 32 := BitVec.ofNat 32 (i 0).val
  let c2_i32 : BitVec 32 := 2#32
  let v0 : BitVec 32 := Scalar.remsi arg0 c2_i32
  let v321 : BitVec 32 := Scalar.subi c1_i32_181 v0
  let c2048_i32_185 : BitVec 32 := 2048#32
  let c0_i32_186 : BitVec 32 := 0#32
  ![v321.toNat, 2048, 0]
def k0_off49 (i : grid0.Coords) : Fin 3 → Nat :=
  let c1_i32_188 : BitVec 32 := 1#32
  let arg0 : BitVec 32 := BitVec.ofNat 32 (i 0).val
  let c2_i32 : BitVec 32 := 2#32
  let v0 : BitVec 32 := Scalar.remsi arg0 c2_i32
  let v330 : BitVec 32 := Scalar.subi c1_i32_188 v0
  let c2560_i32_192 : BitVec 32 := 2560#32
  let c0_i32_193 : BitVec 32 := 0#32
  ![v330.toNat, 2560, 0]
def k0_off50 (i : grid0.Coords) : Fin 3 → Nat :=
  let c1_i32_195 : BitVec 32 := 1#32
  let arg0 : BitVec 32 := BitVec.ofNat 32 (i 0).val
  let c2_i32 : BitVec 32 := 2#32
  let v0 : BitVec 32 := Scalar.remsi arg0 c2_i32
  let v339 : BitVec 32 := Scalar.subi c1_i32_195 v0
  let c3072_i32_199 : BitVec 32 := 3072#32
  let c0_i32_200 : BitVec 32 := 0#32
  ![v339.toNat, 3072, 0]
def k0_off51 (i : grid0.Coords) : Fin 3 → Nat :=
  let c1_i32_202 : BitVec 32 := 1#32
  let arg0 : BitVec 32 := BitVec.ofNat 32 (i 0).val
  let c2_i32 : BitVec 32 := 2#32
  let v0 : BitVec 32 := Scalar.remsi arg0 c2_i32
  let v348 : BitVec 32 := Scalar.subi c1_i32_202 v0
  let c3584_i32_206 : BitVec 32 := 3584#32
  let c0_i32_207 : BitVec 32 := 0#32
  ![v348.toNat, 3584, 0]
def k0_off52 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off53 (i : grid0.Coords) (c0_i32_209 : BitVec 32) : Fin 2 → Nat :=
  let arg0 : BitVec 32 := BitVec.ofNat 32 (i 0).val
  let c4096_i32_208 : BitVec 32 := 4096#32
  let v356 : BitVec 32 := Scalar.muli arg0 c4096_i32_208
  let v357 : BitVec 32 := Scalar.addi v356 c0_i32_209
  let c0_i32_210 : BitVec 32 := 0#32
  ![v357.toNat, 0]
def k0_off54 (i : grid0.Coords) : Fin 3 → Nat :=
  let arg0 : BitVec 32 := BitVec.ofNat 32 (i 0).val
  let c2_i32 : BitVec 32 := 2#32
  let v0 : BitVec 32 := Scalar.remsi arg0 c2_i32
  let c0_i32_211 : BitVec 32 := 0#32
  let c0_i32_212 : BitVec 32 := 0#32
  ![v0.toNat, 0, 0]
def k0_off55 (i : grid0.Coords) : Fin 3 → Nat :=
  let arg0 : BitVec 32 := BitVec.ofNat 32 (i 0).val
  let c2_i32 : BitVec 32 := 2#32
  let v0 : BitVec 32 := Scalar.remsi arg0 c2_i32
  let c512_i32_216 : BitVec 32 := 512#32
  let c0_i32_217 : BitVec 32 := 0#32
  ![v0.toNat, 512, 0]
def k0_off56 (i : grid0.Coords) : Fin 3 → Nat :=
  let arg0 : BitVec 32 := BitVec.ofNat 32 (i 0).val
  let c2_i32 : BitVec 32 := 2#32
  let v0 : BitVec 32 := Scalar.remsi arg0 c2_i32
  let c1024_i32_221 : BitVec 32 := 1024#32
  let c0_i32_222 : BitVec 32 := 0#32
  ![v0.toNat, 1024, 0]
def k0_off57 (i : grid0.Coords) : Fin 3 → Nat :=
  let arg0 : BitVec 32 := BitVec.ofNat 32 (i 0).val
  let c2_i32 : BitVec 32 := 2#32
  let v0 : BitVec 32 := Scalar.remsi arg0 c2_i32
  let c1536_i32_226 : BitVec 32 := 1536#32
  let c0_i32_227 : BitVec 32 := 0#32
  ![v0.toNat, 1536, 0]
def k0_off58 (i : grid0.Coords) : Fin 3 → Nat :=
  let arg0 : BitVec 32 := BitVec.ofNat 32 (i 0).val
  let c2_i32 : BitVec 32 := 2#32
  let v0 : BitVec 32 := Scalar.remsi arg0 c2_i32
  let c2048_i32_231 : BitVec 32 := 2048#32
  let c0_i32_232 : BitVec 32 := 0#32
  ![v0.toNat, 2048, 0]
def k0_off59 (i : grid0.Coords) : Fin 3 → Nat :=
  let arg0 : BitVec 32 := BitVec.ofNat 32 (i 0).val
  let c2_i32 : BitVec 32 := 2#32
  let v0 : BitVec 32 := Scalar.remsi arg0 c2_i32
  let c2560_i32_236 : BitVec 32 := 2560#32
  let c0_i32_237 : BitVec 32 := 0#32
  ![v0.toNat, 2560, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let c3072_i32_241 : BitVec 32 := 3072#32
  let c0_i32_242 : BitVec 32 := 0#32
  ![v0.toNat, 3072, 0]
def k0_off61 (i : grid0.Coords) : Fin 3 → Nat :=
  let arg0 : BitVec 32 := BitVec.ofNat 32 (i 0).val
  let c2_i32 : BitVec 32 := 2#32
  let v0 : BitVec 32 := Scalar.remsi arg0 c2_i32
  let c3584_i32_246 : BitVec 32 := 3584#32
  let c0_i32_247 : BitVec 32 := 0#32
  ![v0.toNat, 3584, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x256 : Shape := ⟨2, ![16384, 256]⟩
abbrev S9 : Shape := ⟨1, ![9]⟩
abbrev S256x512 : Shape := ⟨2, ![256, 512]⟩
abbrev S512 : Shape := ⟨1, ![512]⟩
abbrev S512x128 : Shape := ⟨2, ![512, 128]⟩
abbrev S128 : Shape := ⟨1, ![128]⟩
abbrev S16384x512 : Shape := ⟨2, ![16384, 512]⟩
abbrev S1x512 : Shape := ⟨2, ![1, 512]⟩
abbrev S_ : Shape := ⟨0, ![]⟩
abbrev S16384x128 : Shape := ⟨2, ![16384, 128]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S9, .i32⟩
  | .hbm, ⟨2, _⟩ => ⟨S256x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S16384x512, .f32⟩
  | .hbm, ⟨7, _⟩ => ⟨S1x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Layers.lean ====
module

public import Idealize.ShloMosaic.Lib.ValueIdx
public import Idealize.ShloMosaic.Lib.ValueLayout
public import Idealize.ShloMosaic.PureOps.Ideal.Laws

@[expose] public section

set_option maxRecDepth 16384

noncomputable section

/-! The mathematics, on extended reals: the two layers applied to one row. -/

namespace Cert.Layers

open Idealize.ShloMosaic Idealize.ShloMosaic.ValueIdx
open scoped BigOperators

variable {a h b : ℕ}

/-- Unit `k` of the first layer on the row `x`: the weighted sum of the row, plus the unit's bias, cut off below at zero. -/
def layer₁ (x : Fin a → EReal) (w₁ : (⟨2, ![a, h]⟩ : Shape).Idx → EReal) (b₁ : Fin h → EReal) (k : Fin h) : EReal :=
  max ((∑ j, x j * w₁ (ix2 j k)) + b₁ k) 0

/-- Entry `o` of the second layer on the row `x`: the weighted sum of the first layer's units, plus the entry's bias. -/
def layer₂ (x : Fin a → EReal) (w₁ : (⟨2, ![a, h]⟩ : Shape).Idx → EReal) (b₁ : Fin h → EReal)
    (w₂ : (⟨2, ![h, b]⟩ : Shape).Idx → EReal) (b₂ : Fin b → EReal) (o : Fin b) : EReal :=
  (∑ k, layer₁ x w₁ b₁ k * w₂ (ix2 k o)) + b₂ o

end Cert.Layers
-- ==== Proof.Plain.lean ====
module

public import proofs.«01_k».proof.Proof.Gen.ReferenceIdeal.Run
public import proofs.«01_k».proof.Proof.Layers
public import Idealize.ShloMosaic.Lib.StackMember
public import Idealize.ShloMosaic.Lib.IdealHost
public import Idealize.ShloMosaic.Lib.Pipeline.Value

@[expose] public section

set_option maxRecDepth 16384

noncomputable section

namespace Cert.ReferenceIdeal.Plain

open Idealize.ShloMosaic Idealize.ShloMosaic.ValueIdx
open Cert.ReferenceIdeal Cert.ReferenceIdeal.Gen Cert.Layers
open scoped BigOperators

/-- A bias spread over all rows reads, at row `r` and column `k`, the bias of column `k`. -/
theorem spread {n m : ℕ} (v : (⟨1, ![m]⟩ : Shape).Idx → EReal) (h : (⟨1, ![m]⟩ : Shape).BroadcastsInDim ⟨2, ![1, m]⟩ ![1])
    (h' : (⟨2, ![1, m]⟩ : Shape).BroadcastsInDim ⟨2, ![n, m]⟩ ![0, 1]) (r : Fin n) (k : Fin m) :
    broadcastInDim ⟨2, ![n, m]⟩ ![0, 1] h' (broadcastInDim ⟨2, ![1, m]⟩ ![1] h v) (ix2 r k) = v (ix1 k) := by
  rw [broadcastInDim_apply _ h' _ (ix2 r k) (ix2 (0 : Fin 1) k), broadcastInDim_apply _ h v (ix2 (0 : Fin 1) k) (ix1 k)]
  · intro a
    match a with
    | ⟨0, _⟩ => show k.val = if m = 1 then 0 else k.val
                split
                · have := k.isLt; omega
                · rfl
  · intro a
    match a with
    | ⟨0, _⟩ => rfl
    | ⟨1, _⟩ => show k.val = if m = 1 then 0 else k.val
                split
                · have := k.isLt; omega
                · rfl

/-- What the reference computes, as its operations spell it. -/
def value (x : FVec Ideal S16384x256 .f32) (w₁ : FVec Ideal S256x512 .f32) (b₁ : FVec Ideal S512 .f32) (w₂ : FVec Ideal S512x128 .f32)
    (b₂ : FVec Ideal S128 .f32) : FVec Ideal S16384x128 .f32 :=
  addf (Host.dotGeneral dot_S16384x512_S512x128_S16384x128_1_0_0_1_n_n none
    (maximumf (addf (Host.dotGeneral dot_S16384x256_S256x512_S16384x512_1_0_0_1_n_n none x w₁)
        (broadcastInDim S16384x512 ![0, 1] bcast_S1x512_S16384x512_0_1 (broadcastInDim S1x512 ![1] bcast_S512_S1x512_1 b₁)))
      (broadcastInDim S16384x512 ![] bcast_S_S16384x512 (constant S_ .f32 0x00000000#32))) w₂)
    (broadcastInDim S16384x128 ![0, 1] bcast_S1x128_S16384x128_0_1 (broadcastInDim S1x128 ![1] bcast_S128_S1x128_1 b₂))

/-- Read at row `r` and column `o`, it is the two layers on row `r` of the input, entry `o`. -/
theorem value_apply (x : FVec Ideal S16384x256 .f32) (w₁ : FVec Ideal S256x512 .f32) (b₁ : FVec Ideal S512 .f32)
    (w₂ : FVec Ideal S512x128 .f32) (b₂ : FVec Ideal S128 .f32) (r : Fin 16384) (o : Fin 128) :
    value x w₁ b₁ w₂ b₂ (ix2 r o) = layer₂ (fun j => x (ix2 r j)) w₁ (fun k => b₁ (ix1 k)) w₂ (fun o => b₂ (ix1 o)) o := by
  have hz : (broadcastInDim S16384x512 ![] bcast_S_S16384x512 (constant S_ .f32 0x00000000#32) : FVec Ideal S16384x512 .f32) = fun _ => 0 :=
    funext fun j => (broadcastInDim_scalar_apply bcast_S_S16384x512 _ j).trans Ideal.ofBits_zero_f32
  unfold value layer₂
  rw [hz]
  refine congrArg₂ (· + ·) ((StackMember.dotGeneral_plain_apply (m := 16384) (n := 128) (k := 512) none _ w₂ r o).trans ?_)
    (spread b₂ bcast_S128_S1x128_1 bcast_S1x128_S16384x128_0_1 r o)
  refine Finset.sum_congr rfl fun k _ => congrArg (· * w₂ (ix2 k o)) ?_
  exact congrArg (max · 0) (congrArg₂ (· + ·) (StackMember.dotGeneral_plain_apply (m := 16384) (n := 512) (k := 256) none x w₁ r k)
    (spread b₁ bcast_S512_S1x512_1 bcast_S1x512_S16384x512_0_1 r k))

end Cert.ReferenceIdeal.Plain
-- ==== Proof.Ring.lean ====
module

public import proofs.«01_k».proof.Proof.Gen.KernelIdeal.Frame
public import Idealize.ShloMosaic.Lib.ValueLayout
public import Idealize.ShloMosaic.Lib.ViewIndex
public import Idealize.ShloMosaic.Lib.VecWindow

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx

variable {F : FTy → Type} [FloatOps F]

local notation "𝕄" => MT nD τ sig Unit (Elt F) ℕ (Pipeline.UD sig nD τ) ℕ

/-- The contents of the result array on core `c`. -/
abbrev Res (c : Dev nD) : Type := Buf (Elt F) ((c : Thread nD τ).loc main_v2)

variable (c : Dev nD) (G : Res (F := F) c)

/-- What the copy of tile `m` of group `g` at step `u` gives back: the piece of the result it wrote, holding what `G` says,
    and the tile, which is free again. -/
abbrev back (u : Fin 4) (g : Fin 2) (m : Fin 8) : sProp 𝕄 := iprop(wpieceP0_1 c u m G ∗ ∃ e, wtileP0_1 c g m e)

/-- The eight of them, in the order the body starts the copies. -/
abbrev backs (u : Fin 4) (g : Fin 2) : Fin 8 → sProp 𝕄 := fun j => back c G u g (wsig0_1 j)

/-- Group `g` with the eight copies of step `u` started and none waited for. -/
abbrev flying (g : Fin 2) (u : Fin 4) : sProp 𝕄 :=
  Transfers.Batch countersEmb (c : Thread nD τ) (wcellR0_1 g) default wN0_1 (backs c G u g) 8 0

theorem backs_storable (u : Fin 4) (g : Fin 2) : ∀ j, Storable (upEmb : UEmb _ 𝕄) (backs c G u g j) := fun _ =>
  @Storable.sep _ _ _ _ _ _ _ _ (wstorable_pt0_1 _ _ _ _) (@Storable.«exists» _ _ _ _ _ _ _ _ fun _ => wstorable_pt0_1 _ _ _ _)

/-- The eight pieces of step `u`, all holding what `G` says. -/
abbrev held (u : Fin 4) : sProp 𝕄 :=
  iprop(wpieceP0_1 c u 0 G ∗ wpieceP0_1 c u 1 G ∗ wpieceP0_1 c u 2 G ∗ wpieceP0_1 c u 3 G
    ∗ wpieceP0_1 c u 4 G ∗ wpieceP0_1 c u 5 G ∗ wpieceP0_1 c u 6 G ∗ wpieceP0_1 c u 7 G)

theorem held_eq (u : Fin 4) : (bigSep Finset.univ (fun m : Fin 8 => wpieceP0_1 c u m G) : sProp 𝕄) = held c G u := by
  rw [BI.bigSep_eq_bigSepL_of_eq [0, 1, 2, 3, 4, 5, 6, 7] (by decide) (by decide)]; rfl

/-- The four operands the pipeline stages, held at contents `x₀`, …, `x₃`. -/
abbrev operands (arg2 : Memref sig .tc .vmem S256x512 .f32) (arg3 : Memref sig .tc .vmem S1x512 .f32)
    (arg4 : Memref sig .tc .vmem S512x128 .f32) (arg5 : Memref sig .tc .vmem S1x128 .f32)
    (x0 : Vec F S256x512 .f32) (x1 : Vec F S1x512 .f32) (x2 : Vec F S512x128 .f32) (x3 : Vec F S1x128 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3)

/-! ### What a copy carries -/

/-- A view written whole reads back what was written. -/
theorem read_whole_write {sp : Space} {S : Shape} {e : EltTy} (v : View sig .tc sp S e) (f : v.ty.Contents (Elt F))
    (w : S.Idx → Elt F e) (j : S.Idx) : v.read (Elt F) (v.writes (Elt F) f [⟨Rect.whole S, w⟩]) j = w j := by
  have h := View.read_writes_cons_emb v f (Rect.whole S) w [] j
  rwa [Rect.emb_whole_apply S j] at h

/-- Row `x`, column `y` of a matrix, seen in the same array with a leading axis of extent one. -/
theorem lead {a b : ℕ} (h : (⟨2, ![a, b]⟩ : Shape).numel = (⟨3, ![1, a, b]⟩ : Shape).numel) (j : (⟨2, ![a, b]⟩ : Shape).Idx) :
    Shape.reshapeEquiv h j = ix3 (0 : Fin 1) (j 0) (j 1) := by
  have hj : j = ix2 (j 0) (j 1) := by funext x; fin_cases x <;> rfl
  exact (congrArg _ hj).trans (reshapeEquiv_ix2_1ab h (j 0) (j 1))

/-- The rows of one tile, read out of slot `s` of the input buffer where block `w` has arrived: rows `o`, `o + 1`, … of it. -/
theorem read_arrived (s : Fin 2) (f : (rslot0_0 s).view.ty.Contents (Elt F)) (w : S4096x256.Idx → Elt F .f32) {off : Fin 3 → ℕ} {o : ℕ}
    (inb : ∀ a, off a + S1x512x256.size a ≤ S2x4096x256.size a) (h : off = ![s.val, o, 0]) (j : S1x512x256.Idx)
    (i : S4096x256.Idx) (h0 : (i 0).val = o + (j 1).val) (h1 : (i 1).val = (j 2).val) :
    View.readAt (Elt F) scM0_0.view (Rect.unit (s := S2x4096x256) off S1x512x256.size inb).toLoadRect
      ((rslot0_0 s).view.writes (Elt F) f [⟨Rect.whole S4096x256, w⟩]) j = w i := by
  subst h
  rw [← read_whole_write (rslot0_0 s).view f w i]
  generalize (rslot0_0 s).view.writes (Elt F) f [⟨Rect.whole S4096x256, w⟩] = g
  have hr := lead (a := 4096) (b := 256) squeezes_S1x4096x256_S4096x256.numel_eq i
  show View.read (Elt F) scM0_0.view g ((Rect.unit (s := S2x4096x256) ![s.val, o, 0] S1x512x256.size inb).emb j)
    = View.read (Elt F) scM0_0.view g ((Rect.unit (s := S2x4096x256) ![s.val, 0, 0] S1x4096x256.size (inb_slot0_0 s)).emb
        (Shape.reshapeEquiv squeezes_S1x4096x256_S4096x256.numel_eq i))
  refine congrArg (View.read (Elt F) scM0_0.view g) (Eq.trans ?_ (congrArg _ hr.symm))
  funext a
  refine Fin.ext ?_
  fin_cases a
  · show s.val + 1 * (j 0).val = s.val + 1 * 0
    have := (j 0).isLt
    have h1 : (j 0).val < 1 := this
    omega
  · show o + 1 * (j 1).val = 0 + 1 * (i 0).val
    omega
  · show 0 + 1 * (j 2).val = 0 + 1 * (i 1).val
    omega

/-- A copy of tile `m` into its piece gives back what `backs` promises of it, once the tile was filled with `pay` through the
    whole output buffer and `G` says of the piece what `pay` holds. -/
theorem give_back (u : Fin 4) (g : Fin 2) (m : Fin 8) (fp : HbBuf0 (F := F) c (wpiece0_1 u m)) (et : HbBuf0 (F := F) c (wtile0_1 g m))
    {off : Fin 3 → ℕ} (inb : ∀ a, off a + S1x512x128.size a ≤ S2x4096x128.size a) (h : off = ![g.val, 512 * m.val, 0])
    (pay : S1x512x128.Idx → Elt F .f32)
    (hG : ∀ j : S512x128.Idx, (wpiece0_1 u m).view.read (Elt F) G j = pay (ix3 (0 : Fin 1) (j 0) (j 1))) :
    (iprop(wpieceP0_1 c u m ((wpiece0_1 u m).view.writes (Elt F) fp [⟨Rect.whole S512x128, ReadAs.same.apply
        ((wtile0_1 g m).view.read (Elt F) ((scM0_1.access (Rect.unit (s := S2x4096x128) off S1x512x128.size inb)).write (Elt F) et pay Finset.univ))⟩])
      ∗ wtileP0_1 c g m ((scM0_1.access (Rect.unit (s := S2x4096x128) off S1x512x128.size inb)).write (Elt F) et pay Finset.univ)) : sProp 𝕄)
      ⊢ back c G u g m := by
  subst h
  have hp : ∀ i ∈ (wpiece0_1 u m).view.set, ((wpiece0_1 u m).view.writes (Elt F) fp [⟨Rect.whole S512x128, ReadAs.same.apply
      ((wtile0_1 g m).view.read (Elt F) ((scM0_1.access (Rect.unit (s := S2x4096x128) ![g.val, 512 * m.val, 0] S1x512x128.size inb)).write (Elt F) et pay Finset.univ))⟩]) i = G i := by
    intro i hi
    obtain ⟨j, -, rfl⟩ := Finset.mem_map.1 hi
    refine View.eq_of_read_eq (v := (wpiece0_1 u m).view) ?_
    rw [hG, read_whole_write]
    have hr := lead (a := 512) (b := 128) squeezes_S1x512x128_S512x128.numel_eq j
    have hw := View.read_write_univ (Val := Elt F) (v := scM0_1.access (Rect.unit (s := S2x4096x128) ![g.val, 512 * m.val, 0] S1x512x128.size inb)) et pay
    have := congrFun hw (Shape.reshapeEquiv squeezes_S1x512x128_S512x128.numel_eq j)
    exact this.trans (congrArg pay hr)
  unfold back wpieceP0_1
  rw [pointsTo_congr hp]
  iintro ⟨Hd, Hs⟩
  isplitl [Hd]
  · iexact Hd
  iexists _; iexact Hs

/-! ### What a piece of the result is to hold -/

/-- Rows `512 m, …, 512 m + 511` of block `u` of the input `x`. -/
def rows (x : HbBuf0 (F := F) c hbM0_0) (u : Fin 4) (m : Fin 8) : Vec F S1x512x256 .f32 := fun j =>
  (srcB0_0 u).view.read (Elt F) x (ix2 ⟨512 * m.val + (j 1).val, by have h : (j 1).val < 512 := (j 1).isLt; have := m.isLt; omega⟩ (j 2))

/-- What the body computes from 512 rows `x` of the input, the two weight matrices and the two biases. -/
def mlp (x : Vec F S1x512x256 .f32) (w₁ : Vec F S256x512 .f32) (b₁ : Vec F S1x512 .f32) (w₂ : Vec F S512x128 .f32)
    (b₂ : Vec F S1x128 .f32) : FVec F S1x512x128 .f32 := k0_pay2 (k0_pay1 x w₁ b₁) w₂ b₂

/-- `G` holds, in each of the eight pieces of step `u`, what the body computes from the rows of that piece. -/
def Says (x : HbBuf0 (F := F) c hbM0_0) (w₁ : Vec F S256x512 .f32) (b₁ : Vec F S1x512 .f32) (w₂ : Vec F S512x128 .f32)
    (b₂ : Vec F S1x128 .f32) (u : Fin 4) : Prop :=
  ∀ (m : Fin 8) (j : S512x128.Idx),
    (wpiece0_1 u m).view.read (Elt F) G j = mlp (rows c x u m) w₁ b₁ w₂ b₂ (ix3 (0 : Fin 1) (j 0) (j 1))

variable {c G}

/-- Tile `m` loaded from the slot where block `u` of `x` has arrived is the rows of that tile. -/
theorem read_rows (x : HbBuf0 (F := F) c hbM0_0) (u : Fin 4) (s : Fin 2) (m : Fin 8) (f : (rslot0_0 s).view.ty.Contents (Elt F))
    {off : Fin 3 → ℕ} (inb : ∀ a, off a + S1x512x256.size a ≤ S2x4096x256.size a) (h : off = ![s.val, 512 * m.val, 0]) :
    View.readAt (Elt F) scM0_0.view (Rect.unit (s := S2x4096x256) off S1x512x256.size inb).toLoadRect
      ((rslot0_0 s).view.writes (Elt F) f [⟨Rect.whole S4096x256, ReadAs.same.apply ((srcB0_0 u).view.read (Elt F) x)⟩]) = rows c x u m :=
  funext fun j => read_arrived s f _ inb h j _ rfl rfl

/-- The copy of tile `m` at a step whose result `G` describes: with the tile filled from the rows loaded out of slot `s'`, the copy
    gives back its piece at `G` and its tile. -/
theorem give_tile {x : HbBuf0 (F := F) c hbM0_0} {w₁ : Vec F S256x512 .f32} {b₁ : Vec F S1x512 .f32} {w₂ : Vec F S512x128 .f32}
    {b₂ : Vec F S1x128 .f32} {u : Fin 4} (hG : Says c G x w₁ b₁ w₂ b₂ u) (g s : Fin 2) (m : Fin 8)
    {arg2 : Memref sig .tc .vmem S256x512 .f32} (harg2 : arg2.IsWhole) {arg3 : Memref sig .tc .vmem S1x512 .f32} (harg3 : arg3.IsWhole)
    {arg4 : Memref sig .tc .vmem S512x128 .f32} (harg4 : arg4.IsWhole) {arg5 : Memref sig .tc .vmem S1x128 .f32} (harg5 : arg5.IsWhole)
    (fp : HbBuf0 (F := F) c (wpiece0_1 u m)) (et : HbBuf0 (F := F) c (wtile0_1 g m)) (f : (rslot0_0 s).view.ty.Contents (Elt F))
    {off : Fin 3 → ℕ} {inb : ∀ a, off a + S1x512x128.size a ≤ S2x4096x128.size a} {off' : Fin 3 → ℕ}
    {inb' : ∀ a, off' a + S1x512x256.size a ≤ S2x4096x256.size a} {pay : S1x512x128.Idx → Elt F .f32}
    (hpay : pay = mlp
      (View.readAt (Elt F) scM0_0.view (Rect.unit (s := S2x4096x256) off' S1x512x256.size inb').toLoadRect
        ((rslot0_0 s).view.writes (Elt F) f [⟨Rect.whole S4096x256, ReadAs.same.apply ((srcB0_0 u).view.read (Elt F) x)⟩]))
      (View.readAt (Elt F) arg2.view (Rect.unit (s := S256x512) ![0, 0] S256x512.size inb_S256x512_S256x512_0_0).toLoadRect (harg2.unread w₁))
      (View.readAt (Elt F) arg3.view (Rect.unit (s := S1x512) ![0, 0] S1x512.size inb_S1x512_S1x512_0_0).toLoadRect (harg3.unread b₁))
      (View.readAt (Elt F) arg4.view (Rect.unit (s := S512x128) ![0, 0] S512x128.size inb_S512x128_S512x128_0_0).toLoadRect (harg4.unread w₂))
      (View.readAt (Elt F) arg5.view (Rect.unit (s := S1x128) ![0, 0] S1x128.size inb_S1x128_S1x128_0_0).toLoadRect (harg5.unread b₂)))
    (h : off = ![g.val, 512 * m.val, 0]) (h' : off' = ![s.val, 512 * m.val, 0]) :
    (iprop(wpieceP0_1 c u m ((wpiece0_1 u m).view.writes (Elt F) fp [⟨Rect.whole S512x128, ReadAs.same.apply
        ((wtile0_1 g m).view.read (Elt F) ((scM0_1.access (Rect.unit (s := S2x4096x128) off S1x512x128.size inb)).write (Elt F) et pay Finset.univ))⟩])
      ∗ wtileP0_1 c g m ((scM0_1.access (Rect.unit (s := S2x4096x128) off S1x512x128.size inb)).write (Elt F) et pay Finset.univ)) : sProp 𝕄)
      ⊢ back c G u g m := by
  refine give_back c G u g m fp et inb h pay fun j => ?_
  rw [hG m j, hpay, read_rows x u s m f inb' h', View.readAt_full, View.readAt_full, View.readAt_full, View.readAt_full,
    harg2.read_unread, harg3.read_unread, harg4.read_unread, harg5.read_unread]

end Cert.KernelIdeal.Out
-- ==== Proof.Block.lean ====
module

public import proofs.«01_k».proof.Proof.Ring
public import proofs.«01_k».proof.Proof.Layers
public import Idealize.ShloMosaic.Lib.MatmulPlain
public import Idealize.ShloMosaic.Lib.IdealHost

@[expose] public section

set_option maxRecDepth 16384

noncomputable section

namespace Cert.KernelIdeal.Out

open Idealize.ShloMosaic Idealize.ShloMosaic.ValueIdx
open Cert.KernelIdeal.Gen Cert.Layers
open scoped BigOperators

/-- The first product, bias and cut-off of the body, read at row `p` and unit `k`: the first layer on row `p`. -/
theorem first_layer (x : Vec Ideal S1x512x256 .f32) (w₁ : Vec Ideal S256x512 .f32) (b₁ : Vec Ideal S1x512 .f32) (p : Fin 512) (k : Fin 512) :
    k0_pay1 x w₁ b₁ (ix2 p k) = layer₁ (fun j => x (ix3 (0 : Fin 1) p j)) w₁ (fun k => b₁ (ix2 (0 : Fin 1) k)) k := by
  have hm := Ideal.matmul_plain_apply (M := 512) (K := 256) (N := 512) (φ₁ := .bf16) (φ₂ := .bf16) none
    (shapeCast S512x256 x shapeCasts_S1x512x256_S512x256) w₁ (constant S512x512 .f32 0x00000000#32) p k
  have hb := broadcastTo_1b_ab_apply (a := 512) (b := 512) b₁ broadcasts_S1x512_S512x512 p k
  have hx : ∀ j, shapeCast S512x256 x shapeCasts_S1x512x256_S512x256 (ix2 p j) = x (ix3 (0 : Fin 1) p j) := fun j =>
    shapeCast_1ab_ab_apply x shapeCasts_S1x512x256_S512x256 p j
  have hz : (constant S512x512 .f32 0x00000000#32 : FVec Ideal S512x512 .f32) (ix2 p k) = 0 := Ideal.ofBits_zero_f32
  rw [hz, zero_add] at hm
  unfold k0_pay1 layer₁
  simp only [← hx]
  rw [shapeCast_self]
  exact congrArg₂ max (congrArg₂ (· + ·) hm hb) Ideal.ofBits_zero_bf16

/-- What the body computes of 512 rows, read at row `p` and column `q`: the two layers on row `p`, entry `q`. -/
theorem mlp_apply (x : Vec Ideal S1x512x256 .f32) (w₁ : Vec Ideal S256x512 .f32) (b₁ : Vec Ideal S1x512 .f32) (w₂ : Vec Ideal S512x128 .f32)
    (b₂ : Vec Ideal S1x128 .f32) (p : Fin 512) (q : Fin 128) :
    mlp x w₁ b₁ w₂ b₂ (ix3 (0 : Fin 1) p q)
      = layer₂ (fun j => x (ix3 (0 : Fin 1) p j)) w₁ (fun k => b₁ (ix2 (0 : Fin 1) k)) w₂ (fun q => b₂ (ix2 (0 : Fin 1) q)) q := by
  have hm := Ideal.matmul_plain_apply (M := 512) (K := 512) (N := 128) (φ₁ := .bf16) (φ₂ := .bf16) none
    (k0_pay1 x w₁ b₁) w₂ (constant S512x128 .f32 0x00000000#32) p q
  have hb := broadcastTo_1b_ab_apply (a := 512) (b := 128) b₂ broadcasts_S1x128_S512x128 p q
  have hz : (constant S512x128 .f32 0x00000000#32 : FVec Ideal S512x128 .f32) (ix2 p q) = 0 := Ideal.ofBits_zero_f32
  rw [hz, zero_add] at hm
  unfold mlp k0_pay2 layer₂
  simp only [← first_layer]
  rw [shapeCast_self]
  refine (shapeCast_ab_1ab_apply _ shapeCasts_S512x128_S1x512x128 0 p q).trans ?_
  exact congrArg₂ (· + ·) hm hb

end Cert.KernelIdeal.Out
-- ==== Proof.RunFirst.lean ====
module

public import proofs.«01_k».proof.Proof.Ring

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (G : Res (F := F) c) (t : Fin cfg0.N)
  (arg2 : Memref sig .tc .vmem S256x512 .f32) (harg2 : arg2.IsWhole) (arg3 : Memref sig .tc .vmem S1x512 .f32) (harg3 : arg3.IsWhole)
  (arg4 : Memref sig .tc .vmem S512x128 .f32) (harg4 : arg4.IsWhole) (arg5 : Memref sig .tc .vmem S1x128 .f32) (harg5 : arg5.IsWhole)
  (x0 : Vec F S256x512 .f32) (x1 : Vec F S1x512 .f32) (x2 : Vec F S512x128 .f32) (x3 : Vec F S1x128 .f32)
  (fh0 : HbBuf0 (F := F) c hbM0_0)

set_option maxHeartbeats 1000000 in
/-- The body at the first point, whose body also starts the copy of its own block in: both slots of the input buffer free, both groups of tiles free. When `G` says of the pieces of this
    point what the body computes from its rows, the copies it starts give those pieces back at `G`. -/
theorem runFirst (hc0 : cond0_0 (grid0.coords t)) (hc1 : cond0_1 (grid0.coords t)) (hc2 : ¬cond0_2 (grid0.coords t)) (hc3 : ¬cond0_3 (grid0.coords t))
    (hS : Says c G fh0 x0 x1 x2 x3 (Ring.bk 4 t.val)) (W : Waits sig Unit) (K : PUnit → sProp 𝕄) :
    iprop(operands c arg2 arg3 arg4 arg5 x0 x1 x2 x3
        ∗ Ring.free (cellP0_0 c) (slotW0_0 c fh0) (Ring.sl 2 t.val)
        ∗ Ring.free (cellP0_0 c) (slotW0_0 c fh0) (Ring.sl 2 (t.val + 1))
        ∗ whome0_1 c (Ring.bk 4 t.val)
        ∗ wfree0_1 c (Ring.sl 2 t.val)
        ∗ owes (c : Thread nD τ) 0 W
        ∗ (iprop(operands c arg2 arg3 arg4 arg5 x0 x1 x2 x3
            ∗ Ring.inflight (flightW0_0 c fh0) (Ring.sl 2 (t.val + 1)) (Ring.bk 4 (t.val + 1))
            ∗ Ring.kept (cellP0_0 c) (slotW0_0 c fh0) (landed0_0 c fh0) (Ring.sl 2 t.val) (Ring.bk 4 t.val)
            ∗ flying c G (Ring.sl 2 t.val) (Ring.bk 4 t.val)
            ∗ (∃ W', owes (c : Thread nD τ) 0 W')) -∗ K ⟨⟩))
      ⊢ wp frame (wpE (defs₀ (F := F)) Variants.none c none) Set.univ (cc0__mlp_tile (grid0.coords t)
          (Memref.whole main_arg0) (Memref.isWhole_whole _) arg2 harg2 arg3 harg3 arg4 harg4 arg5 harg5
          (Memref.whole main_v2) (Memref.isWhole_whole _) scM0_0 (Memref.isWhole_whole _) scM0_1 (Memref.isWhole_whole _)
          cc0_scratch2 cc0_scratch3) K := by
  haveI : Fact (cond0_0 (grid0.coords t)) := ⟨hc0⟩
  haveI : Fact (cond0_1 (grid0.coords t)) := ⟨hc1⟩
  haveI : Fact (¬cond0_2 (grid0.coords t)) := ⟨hc2⟩
  haveI : Fact (¬cond0_3 (grid0.coords t)) := ⟨hc3⟩
  simp only [cc0__mlp_tile_eq_skeleton]; unfold cc0__mlp_tile_skel
  simp only [k0_part7_eq_skeleton, k0_part8_eq_skeleton, k0_part9_eq_skeleton, k0_part10_eq_skeleton, k0_part11_eq_skeleton, k0_part12_eq_skeleton, k0_part13_eq_skeleton, k0_part14_eq_skeleton]
  have hcanon0 := canon0_0_1 t hc0 hc1 hc2 hc3
  have hcanon1 := canon0_0_2 t hc0 hc1 hc2 hc3
  have hcanon2 := canon0_0_3 t hc0 hc1 hc2 hc3
  unfold operands owns Ring.free Ring.inflight Ring.kept
  iintro ⟨⟨⟨%f0, %hf0, H0⟩, ⟨%f1, %hf1, H1⟩, ⟨%f2, %hf2, H2⟩, ⟨%f3, %hf3, H3⟩⟩,
    ⟨Hc0_0_0, ⟨%fs0_0_0, Hs0_0_0, Hw0_0_0⟩⟩,
    ⟨Hc0_0_1, ⟨%fs0_0_1, Hs0_0_1, Hw0_0_1⟩⟩,
    ⟨⟨%fp0_1_0, Hp0_1_0⟩, ⟨%fp0_1_1, Hp0_1_1⟩, ⟨%fp0_1_2, Hp0_1_2⟩, ⟨%fp0_1_3, Hp0_1_3⟩, ⟨%fp0_1_4, Hp0_1_4⟩, ⟨%fp0_1_5, Hp0_1_5⟩, ⟨%fp0_1_6, Hp0_1_6⟩, ⟨%fp0_1_7, Hp0_1_7⟩⟩,
    ⟨Hq0_1, ⟨%et0_1_0, Ht0_1_0⟩, ⟨%et0_1_1, Ht0_1_1⟩, ⟨%et0_1_2, Ht0_1_2⟩, ⟨%et0_1_3, Ht0_1_3⟩, ⟨%et0_1_4, Ht0_1_4⟩, ⟨%et0_1_5, Ht0_1_5⟩, ⟨%et0_1_6, Ht0_1_6⟩, ⟨%et0_1_7, Ht0_1_7⟩⟩,
    HW,
    Hk⟩
  ihave Hsp0_0_0 := (src0_0_split c fh0 (Ring.sl 2 t.val) (Ring.bk 4 t.val)).1 $$ Hw0_0_0
  icases Hsp0_0_0 with ⟨Hh0_0_0, Hr0_0_0⟩
  ihave Hsp0_0_1 := (src0_0_split c fh0 (Ring.sl 2 (t.val + 1)) (Ring.bk 4 (t.val + 1))).1 $$ Hw0_0_1
  icases Hsp0_0_1 with ⟨Hh0_0_1, Hr0_0_1⟩
  have hD0_1 := backs_storable (F := F) c G (Ring.bk 4 t.val) (Ring.sl 2 t.val)
  imod (Transfers.batch_alloc' (Lvl := ℕ) countersEmb (c : Thread nD τ) default wN0_1 (backs c G (Ring.bk 4 t.val) (Ring.sl 2 t.val))
    (sm := wcellR0_1 (Ring.sl 2 t.val)) (E := Set.univ)) $$ Hq0_1 with HN0_1
  clear hD0_1
  obtain rfl := harg2.eq_unread hf0; obtain rfl := harg3.eq_unread hf1; obtain rfl := harg4.eq_unread hf2; obtain rfl := harg5.eq_unread hf3
  sl_exec (disch := first
    | sl_exact hc0 | sl_exact hc1 | sl_exact hc2 | sl_exact hc3
    | (refine give_tile hS (Ring.sl 2 t.val) (Ring.sl 2 t.val) _ harg2 harg3 harg4 harg5 _ _ _ rfl ?_ ?_ <;> first
        | exact wcoff0_1_21 t | exact wcoff0_1_22 t | exact wcoff0_1_23 t | exact wcoff0_1_24 t
        | exact wcoff0_1_25 t | exact wcoff0_1_26 t | exact wcoff0_1_27 t | exact wcoff0_1_28 t
        | exact coff0_0_11 t | exact coff0_0_12 t | exact coff0_0_13 t | exact coff0_0_14 t
        | exact coff0_0_15 t | exact coff0_0_16 t | exact coff0_0_17 t | exact coff0_0_18 t))
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [Hc0_0_1 Hr0_0_1]
  · iexists _; isplitl [Hc0_0_1]; · iexact Hc0_0_1
    iexact Hr0_0_1
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 2 t.val) (Ring.bk 4 t.val)).2; isplitl [Hh0_0_0]; · iexact Hh0_0_0
    iexact Hr0_0_0
  isplitl [HN0_1]; · iexact HN0_1
  iexists _; iexact HW

end Cert.KernelIdeal.Out
-- ==== Proof.RunSecond.lean ====
module

public import proofs.«01_k».proof.Proof.Ring

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (G : Res (F := F) c) (t : Fin cfg0.N)
  (arg2 : Memref sig .tc .vmem S256x512 .f32) (harg2 : arg2.IsWhole) (arg3 : Memref sig .tc .vmem S1x512 .f32) (harg3 : arg3.IsWhole)
  (arg4 : Memref sig .tc .vmem S512x128 .f32) (harg4 : arg4.IsWhole) (arg5 : Memref sig .tc .vmem S1x128 .f32) (harg5 : arg5.IsWhole)
  (x0 : Vec F S256x512 .f32) (x1 : Vec F S1x512 .f32) (x2 : Vec F S512x128 .f32) (x3 : Vec F S1x128 .f32)
  (fh0 : HbBuf0 (F := F) c hbM0_0)

set_option maxHeartbeats 1000000 in
/-- The body at the second point, whose group of tiles has not been used yet. When `G` says of the pieces of this
    point what the body computes from its rows, the copies it starts give those pieces back at `G`. -/
theorem runSecond (hc0 : ¬cond0_0 (grid0.coords t)) (hc1 : cond0_1 (grid0.coords t)) (hc2 : ¬cond0_2 (grid0.coords t)) (hc3 : ¬cond0_3 (grid0.coords t))
    (hS : Says c G fh0 x0 x1 x2 x3 (Ring.bk 4 t.val)) (W : Waits sig Unit) (K : PUnit → sProp 𝕄) :
    iprop(operands c arg2 arg3 arg4 arg5 x0 x1 x2 x3
        ∗ Ring.inflight (flightW0_0 c fh0) (Ring.sl 2 t.val) (Ring.bk 4 t.val)
        ∗ Ring.kept (cellP0_0 c) (slotW0_0 c fh0) (landed0_0 c fh0) (Ring.sl 2 (t.val + 1)) (Ring.bk 4 (t.val - 1))
        ∗ whome0_1 c (Ring.bk 4 t.val)
        ∗ wfree0_1 c (Ring.sl 2 t.val)
        ∗ owes (c : Thread nD τ) 0 W
        ∗ (iprop(operands c arg2 arg3 arg4 arg5 x0 x1 x2 x3
            ∗ Ring.inflight (flightW0_0 c fh0) (Ring.sl 2 (t.val + 1)) (Ring.bk 4 (t.val + 1))
            ∗ Ring.kept (cellP0_0 c) (slotW0_0 c fh0) (landed0_0 c fh0) (Ring.sl 2 t.val) (Ring.bk 4 t.val)
            ∗ flying c G (Ring.sl 2 t.val) (Ring.bk 4 t.val)
            ∗ (∃ W', owes (c : Thread nD τ) 0 W')) -∗ K ⟨⟩))
      ⊢ wp frame (wpE (defs₀ (F := F)) Variants.none c none) Set.univ (cc0__mlp_tile (grid0.coords t)
          (Memref.whole main_arg0) (Memref.isWhole_whole _) arg2 harg2 arg3 harg3 arg4 harg4 arg5 harg5
          (Memref.whole main_v2) (Memref.isWhole_whole _) scM0_0 (Memref.isWhole_whole _) scM0_1 (Memref.isWhole_whole _)
          cc0_scratch2 cc0_scratch3) K := by
  haveI : Fact (¬cond0_0 (grid0.coords t)) := ⟨hc0⟩
  haveI : Fact (cond0_1 (grid0.coords t)) := ⟨hc1⟩
  haveI : Fact (¬cond0_2 (grid0.coords t)) := ⟨hc2⟩
  haveI : Fact (¬cond0_3 (grid0.coords t)) := ⟨hc3⟩
  simp only [cc0__mlp_tile_eq_skeleton]; unfold cc0__mlp_tile_skel
  simp only [k0_part7_eq_skeleton, k0_part8_eq_skeleton, k0_part9_eq_skeleton, k0_part10_eq_skeleton, k0_part11_eq_skeleton, k0_part12_eq_skeleton, k0_part13_eq_skeleton, k0_part14_eq_skeleton]
  unfold operands owns Ring.inflight Ring.kept
  iintro ⟨⟨⟨%f0, %hf0, H0⟩, ⟨%f1, %hf1, H1⟩, ⟨%f2, %hf2, H2⟩, ⟨%f3, %hf3, H3⟩⟩,
    ⟨%ff0_0, Hf0_0, Hrf0_0⟩,
    ⟨Hc0_0_1, ⟨%fs0_0_1, Hs0_0_1, Hw0_0_1⟩⟩,
    ⟨⟨%fp0_1_0, Hp0_1_0⟩, ⟨%fp0_1_1, Hp0_1_1⟩, ⟨%fp0_1_2, Hp0_1_2⟩, ⟨%fp0_1_3, Hp0_1_3⟩, ⟨%fp0_1_4, Hp0_1_4⟩, ⟨%fp0_1_5, Hp0_1_5⟩, ⟨%fp0_1_6, Hp0_1_6⟩, ⟨%fp0_1_7, Hp0_1_7⟩⟩,
    ⟨Hq0_1, ⟨%et0_1_0, Ht0_1_0⟩, ⟨%et0_1_1, Ht0_1_1⟩, ⟨%et0_1_2, Ht0_1_2⟩, ⟨%et0_1_3, Ht0_1_3⟩, ⟨%et0_1_4, Ht0_1_4⟩, ⟨%et0_1_5, Ht0_1_5⟩, ⟨%et0_1_6, Ht0_1_6⟩, ⟨%et0_1_7, Ht0_1_7⟩⟩,
    HW,
    Hk⟩
  ihave Hsp0_0_1 := (src0_0_split c fh0 (Ring.sl 2 (t.val + 1)) (Ring.bk 4 (t.val + 1))).1 $$ Hw0_0_1
  icases Hsp0_0_1 with ⟨Hh0_0_1, Hr0_0_1⟩
  have hD0_1 := backs_storable (F := F) c G (Ring.bk 4 t.val) (Ring.sl 2 t.val)
  imod (Transfers.batch_alloc' (Lvl := ℕ) countersEmb (c : Thread nD τ) default wN0_1 (backs c G (Ring.bk 4 t.val) (Ring.sl 2 t.val))
    (sm := wcellR0_1 (Ring.sl 2 t.val)) (E := Set.univ)) $$ Hq0_1 with HN0_1
  clear hD0_1
  obtain rfl := harg2.eq_unread hf0; obtain rfl := harg3.eq_unread hf1; obtain rfl := harg4.eq_unread hf2; obtain rfl := harg5.eq_unread hf3
  sl_exec (disch := first
    | sl_exact hc0 | sl_exact hc1 | sl_exact hc2 | sl_exact hc3
    | (refine give_tile hS (Ring.sl 2 t.val) (Ring.sl 2 t.val) _ harg2 harg3 harg4 harg5 _ _ _ rfl ?_ ?_ <;> first
        | exact wcoff0_1_21 t | exact wcoff0_1_22 t | exact wcoff0_1_23 t | exact wcoff0_1_24 t
        | exact wcoff0_1_25 t | exact wcoff0_1_26 t | exact wcoff0_1_27 t | exact wcoff0_1_28 t
        | exact coff0_0_11 t | exact coff0_0_12 t | exact coff0_0_13 t | exact coff0_0_14 t
        | exact coff0_0_15 t | exact coff0_0_16 t | exact coff0_0_17 t | exact coff0_0_18 t))
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 4 t.val)).2; isplitl [Hf0_0_src]; · iexact Hf0_0_src
    iexact Hrf0_0
  isplitl [HN0_1]; · iexact HN0_1
  iexists _; iexact HW

end Cert.KernelIdeal.Out
-- ==== Proof.RunMiddle.lean ====
module

public import proofs.«01_k».proof.Proof.Ring

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (G : Res (F := F) c) (t : Fin cfg0.N)
  (arg2 : Memref sig .tc .vmem S256x512 .f32) (harg2 : arg2.IsWhole) (arg3 : Memref sig .tc .vmem S1x512 .f32) (harg3 : arg3.IsWhole)
  (arg4 : Memref sig .tc .vmem S512x128 .f32) (harg4 : arg4.IsWhole) (arg5 : Memref sig .tc .vmem S1x128 .f32) (harg5 : arg5.IsWhole)
  (x0 : Vec F S256x512 .f32) (x1 : Vec F S1x512 .f32) (x2 : Vec F S512x128 .f32) (x3 : Vec F S1x128 .f32)
  (fh0 : HbBuf0 (F := F) c hbM0_0)

set_option sl_exec.dischHeartbeats 100000 in
set_option maxHeartbeats 8000000 in
/-- The body at the third point, which first waits for the copies that the point two before it started from the same tiles. When `G` says of the pieces of this
    point what the body computes from its rows, the copies it starts give those pieces back at `G`. -/
theorem runMiddle (hc0 : ¬cond0_0 (grid0.coords t)) (hc1 : cond0_1 (grid0.coords t)) (hc2 : cond0_2 (grid0.coords t)) (hc3 : ¬cond0_3 (grid0.coords t))
    (hS : Says c G fh0 x0 x1 x2 x3 (Ring.bk 4 t.val)) (W : Waits sig Unit) (K : PUnit → sProp 𝕄) :
    iprop(operands c arg2 arg3 arg4 arg5 x0 x1 x2 x3
        ∗ Ring.inflight (flightW0_0 c fh0) (Ring.sl 2 t.val) (Ring.bk 4 t.val)
        ∗ Ring.kept (cellP0_0 c) (slotW0_0 c fh0) (landed0_0 c fh0) (Ring.sl 2 (t.val + 1)) (Ring.bk 4 (t.val - 1))
        ∗ whome0_1 c (Ring.bk 4 t.val)
        ∗ flying c G (Ring.sl 2 t.val) (Ring.bk 4 (t.val - 2))
        ∗ owes (c : Thread nD τ) 0 W
        ∗ (iprop(operands c arg2 arg3 arg4 arg5 x0 x1 x2 x3
            ∗ Ring.inflight (flightW0_0 c fh0) (Ring.sl 2 (t.val + 1)) (Ring.bk 4 (t.val + 1))
            ∗ Ring.kept (cellP0_0 c) (slotW0_0 c fh0) (landed0_0 c fh0) (Ring.sl 2 t.val) (Ring.bk 4 t.val)
            ∗ held c G (Ring.bk 4 (t.val - 2))
            ∗ flying c G (Ring.sl 2 t.val) (Ring.bk 4 t.val)
            ∗ (∃ W', owes (c : Thread nD τ) 0 W')) -∗ K ⟨⟩))
      ⊢ wp frame (wpE (defs₀ (F := F)) Variants.none c none) Set.univ (cc0__mlp_tile (grid0.coords t)
          (Memref.whole main_arg0) (Memref.isWhole_whole _) arg2 harg2 arg3 harg3 arg4 harg4 arg5 harg5
          (Memref.whole main_v2) (Memref.isWhole_whole _) scM0_0 (Memref.isWhole_whole _) scM0_1 (Memref.isWhole_whole _)
          cc0_scratch2 cc0_scratch3) K := by
  haveI : Fact (¬cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0__mlp_tile_eq_skeleton]; unfold cc0__mlp_tile_skel
  simp only [k0_part7_eq_skeleton, k0_part1_eq_skeleton, k0_part2_eq_skeleton, k0_part8_eq_skeleton, k0_part9_eq_skeleton, k0_part10_eq_skeleton, k0_part11_eq_skeleton, k0_part12_eq_skeleton, k0_part13_eq_skeleton, k0_part14_eq_skeleton]
  unfold operands owns Ring.inflight Ring.kept
  iintro ⟨⟨⟨%f0, %hf0, H0⟩, ⟨%f1, %hf1, H1⟩, ⟨%f2, %hf2, H2⟩, ⟨%f3, %hf3, H3⟩⟩,
    ⟨%ff0_0, Hf0_0, Hrf0_0⟩,
    ⟨Hc0_0_1, ⟨%fs0_0_1, Hs0_0_1, Hw0_0_1⟩⟩,
    ⟨⟨%fp0_1_0, Hp0_1_0⟩, ⟨%fp0_1_1, Hp0_1_1⟩, ⟨%fp0_1_2, Hp0_1_2⟩, ⟨%fp0_1_3, Hp0_1_3⟩, ⟨%fp0_1_4, Hp0_1_4⟩, ⟨%fp0_1_5, Hp0_1_5⟩, ⟨%fp0_1_6, Hp0_1_6⟩, ⟨%fp0_1_7, Hp0_1_7⟩⟩,
    HF0_1,
    HW,
    Hk⟩
  ihave Hsp0_0_1 := (src0_0_split c fh0 (Ring.sl 2 (t.val + 1)) (Ring.bk 4 (t.val + 1))).1 $$ Hw0_0_1
  icases Hsp0_0_1 with ⟨Hh0_0_1, Hr0_0_1⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  icases HF0_1_src0 with ⟨%eF0_1_0, HtF0_1_0⟩
  icases HF0_1_src1 with ⟨%eF0_1_1, HtF0_1_1⟩
  icases HF0_1_src2 with ⟨%eF0_1_2, HtF0_1_2⟩
  icases HF0_1_src3 with ⟨%eF0_1_3, HtF0_1_3⟩
  icases HF0_1_src4 with ⟨%eF0_1_4, HtF0_1_4⟩
  icases HF0_1_src5 with ⟨%eF0_1_5, HtF0_1_5⟩
  icases HF0_1_src6 with ⟨%eF0_1_6, HtF0_1_6⟩
  icases HF0_1_src7 with ⟨%eF0_1_7, HtF0_1_7⟩
  have hD0_1 := backs_storable (F := F) c G (Ring.bk 4 t.val) (Ring.sl 2 t.val)
  imod (Transfers.batch_alloc' (Lvl := ℕ) countersEmb (c : Thread nD τ) default wN0_1 (backs c G (Ring.bk 4 t.val) (Ring.sl 2 t.val))
    (sm := wcellR0_1 (Ring.sl 2 t.val)) (E := Set.univ)) $$ HF0_1 with HN0_1
  clear hD0_1
  sl_exec (disch := first
    | sl_exact hc0 | sl_exact hc1 | sl_exact hc2 | sl_exact hc3
    | (refine give_tile hS (Ring.sl 2 t.val) (Ring.sl 2 t.val) _ harg2 harg3 harg4 harg5 _ _ _ rfl ?_ ?_ <;> first
        | exact wcoff0_1_21 t | exact wcoff0_1_22 t | exact wcoff0_1_23 t | exact wcoff0_1_24 t
        | exact wcoff0_1_25 t | exact wcoff0_1_26 t | exact wcoff0_1_27 t | exact wcoff0_1_28 t
        | exact coff0_0_11 t | exact coff0_0_12 t | exact coff0_0_13 t | exact coff0_0_14 t
        | exact coff0_0_15 t | exact coff0_0_16 t | exact coff0_0_17 t | exact coff0_0_18 t))
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 4 t.val)).2; isplitl [Hf0_0_src]; · iexact Hf0_0_src
    iexact Hrf0_0
  isplitl [HF0_1_dst0 HF0_1_dst1 HF0_1_dst2 HF0_1_dst3 HF0_1_dst4 HF0_1_dst5 HF0_1_dst6 HF0_1_dst7]
  · isplitl [HF0_1_dst0]; · iexact HF0_1_dst0
    isplitl [HF0_1_dst1]; · iexact HF0_1_dst1
    isplitl [HF0_1_dst2]; · iexact HF0_1_dst2
    isplitl [HF0_1_dst3]; · iexact HF0_1_dst3
    isplitl [HF0_1_dst4]; · iexact HF0_1_dst4
    isplitl [HF0_1_dst5]; · iexact HF0_1_dst5
    isplitl [HF0_1_dst6]; · iexact HF0_1_dst6
    iexact HF0_1_dst7
  isplitl [HN0_1]; · iexact HN0_1
  iexists _; iexact HW

end Cert.KernelIdeal.Out
-- ==== Proof.RunLast.lean ====
module

public import proofs.«01_k».proof.Proof.Ring

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (G : Res (F := F) c) (t : Fin cfg0.N)
  (arg2 : Memref sig .tc .vmem S256x512 .f32) (harg2 : arg2.IsWhole) (arg3 : Memref sig .tc .vmem S1x512 .f32) (harg3 : arg3.IsWhole)
  (arg4 : Memref sig .tc .vmem S512x128 .f32) (harg4 : arg4.IsWhole) (arg5 : Memref sig .tc .vmem S1x128 .f32) (harg5 : arg5.IsWhole)
  (x0 : Vec F S256x512 .f32) (x1 : Vec F S1x512 .f32) (x2 : Vec F S512x128 .f32) (x3 : Vec F S1x128 .f32)
  (fh0 : HbBuf0 (F := F) c hbM0_0)

set_option sl_exec.dischHeartbeats 100000 in
set_option maxHeartbeats 8000000 in
/-- The body at the last point, which reads no further block in and waits for every copy before it returns. When `G` says of the pieces of this
    point what the body computes from its rows, the copies it starts give those pieces back at `G`. -/
theorem runLast (hc0 : ¬cond0_0 (grid0.coords t)) (hc1 : ¬cond0_1 (grid0.coords t)) (hc2 : cond0_2 (grid0.coords t)) (hc3 : cond0_3 (grid0.coords t))
    (hS : Says c G fh0 x0 x1 x2 x3 (Ring.bk 4 t.val)) (W : Waits sig Unit) (K : PUnit → sProp 𝕄) :
    iprop(operands c arg2 arg3 arg4 arg5 x0 x1 x2 x3
        ∗ Ring.inflight (flightW0_0 c fh0) (Ring.sl 2 t.val) (Ring.bk 4 t.val)
        ∗ whome0_1 c (Ring.bk 4 t.val)
        ∗ flying c G (Ring.sl 2 t.val) (Ring.bk 4 (t.val - 2))
        ∗ flying c G (Ring.sl 2 (t.val + 1)) (Ring.bk 4 (t.val - 1))
        ∗ owes (c : Thread nD τ) 0 W
        ∗ (iprop(operands c arg2 arg3 arg4 arg5 x0 x1 x2 x3
            ∗ Ring.kept (cellP0_0 c) (slotW0_0 c fh0) (landed0_0 c fh0) (Ring.sl 2 t.val) (Ring.bk 4 t.val)
            ∗ held c G (Ring.bk 4 t.val)
            ∗ held c G (Ring.bk 4 (t.val - 2))
            ∗ held c G (Ring.bk 4 (t.val - 1))
            ∗ wfree0_1 c (Ring.sl 2 t.val)
            ∗ wfree0_1 c (Ring.sl 2 (t.val + 1))
            ∗ (∃ W', owes (c : Thread nD τ) 0 W')) -∗ K ⟨⟩))
      ⊢ wp frame (wpE (defs₀ (F := F)) Variants.none c none) Set.univ (cc0__mlp_tile (grid0.coords t)
          (Memref.whole main_arg0) (Memref.isWhole_whole _) arg2 harg2 arg3 harg3 arg4 harg4 arg5 harg5
          (Memref.whole main_v2) (Memref.isWhole_whole _) scM0_0 (Memref.isWhole_whole _) scM0_1 (Memref.isWhole_whole _)
          cc0_scratch2 cc0_scratch3) K := by
  haveI : Fact (¬cond0_0 (grid0.coords t)) := ⟨hc0⟩
  haveI : Fact (¬cond0_1 (grid0.coords t)) := ⟨hc1⟩
  haveI : Fact (cond0_2 (grid0.coords t)) := ⟨hc2⟩
  haveI : Fact (cond0_3 (grid0.coords t)) := ⟨hc3⟩
  simp only [cc0__mlp_tile_eq_skeleton]; unfold cc0__mlp_tile_skel
  simp only [k0_part7_eq_skeleton, k0_part1_eq_skeleton, k0_part2_eq_skeleton, k0_part8_eq_skeleton, k0_part9_eq_skeleton, k0_part10_eq_skeleton, k0_part11_eq_skeleton, k0_part12_eq_skeleton, k0_part13_eq_skeleton, k0_part14_eq_skeleton, k0_part3_eq_skeleton, k0_part4_eq_skeleton, k0_part5_eq_skeleton, k0_part6_eq_skeleton]
  unfold operands owns Ring.inflight Ring.kept
  iintro ⟨⟨⟨%f0, %hf0, H0⟩, ⟨%f1, %hf1, H1⟩, ⟨%f2, %hf2, H2⟩, ⟨%f3, %hf3, H3⟩⟩,
    ⟨%ff0_0, Hf0_0, Hrf0_0⟩,
    ⟨⟨%fp0_1_0, Hp0_1_0⟩, ⟨%fp0_1_1, Hp0_1_1⟩, ⟨%fp0_1_2, Hp0_1_2⟩, ⟨%fp0_1_3, Hp0_1_3⟩, ⟨%fp0_1_4, Hp0_1_4⟩, ⟨%fp0_1_5, Hp0_1_5⟩, ⟨%fp0_1_6, Hp0_1_6⟩, ⟨%fp0_1_7, Hp0_1_7⟩⟩,
    HF0_1,
    HI0_1,
    HW,
    Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  icases HF0_1_src0 with ⟨%eF0_1_0, HtF0_1_0⟩
  icases HF0_1_src1 with ⟨%eF0_1_1, HtF0_1_1⟩
  icases HF0_1_src2 with ⟨%eF0_1_2, HtF0_1_2⟩
  icases HF0_1_src3 with ⟨%eF0_1_3, HtF0_1_3⟩
  icases HF0_1_src4 with ⟨%eF0_1_4, HtF0_1_4⟩
  icases HF0_1_src5 with ⟨%eF0_1_5, HtF0_1_5⟩
  icases HF0_1_src6 with ⟨%eF0_1_6, HtF0_1_6⟩
  icases HF0_1_src7 with ⟨%eF0_1_7, HtF0_1_7⟩
  have hD0_1 := backs_storable (F := F) c G (Ring.bk 4 t.val) (Ring.sl 2 t.val)
  imod (Transfers.batch_alloc' (Lvl := ℕ) countersEmb (c : Thread nD τ) default wN0_1 (backs c G (Ring.bk 4 t.val) (Ring.sl 2 t.val))
    (sm := wcellR0_1 (Ring.sl 2 t.val)) (E := Set.univ)) $$ HF0_1 with HN0_1
  clear hD0_1
  sl_exec (disch := first
    | sl_exact hc0 | sl_exact hc1 | sl_exact hc2 | sl_exact hc3
    | (refine give_tile hS (Ring.sl 2 t.val) (Ring.sl 2 t.val) _ harg2 harg3 harg4 harg5 _ _ _ rfl ?_ ?_ <;> first
        | exact wcoff0_1_21 t | exact wcoff0_1_22 t | exact wcoff0_1_23 t | exact wcoff0_1_24 t
        | exact wcoff0_1_25 t | exact wcoff0_1_26 t | exact wcoff0_1_27 t | exact wcoff0_1_28 t
        | exact coff0_0_11 t | exact coff0_0_12 t | exact coff0_0_13 t | exact coff0_0_14 t
        | exact coff0_0_15 t | exact coff0_0_16 t | exact coff0_0_17 t | exact coff0_0_18 t))
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 4 t.val)).2; isplitl [Hf0_0_src]; · iexact Hf0_0_src
    iexact Hrf0_0
  isplitl [HN0_1_dst0 HN0_1_dst1 HN0_1_dst2 HN0_1_dst3 HN0_1_dst4 HN0_1_dst5 HN0_1_dst6 HN0_1_dst7]
  · isplitl [HN0_1_dst0]; · iexact HN0_1_dst0
    isplitl [HN0_1_dst1]; · iexact HN0_1_dst1
    isplitl [HN0_1_dst2]; · iexact HN0_1_dst2
    isplitl [HN0_1_dst3]; · iexact HN0_1_dst3
    isplitl [HN0_1_dst4]; · iexact HN0_1_dst4
    isplitl [HN0_1_dst5]; · iexact HN0_1_dst5
    isplitl [HN0_1_dst6]; · iexact HN0_1_dst6
    iexact HN0_1_dst7
  isplitl [HF0_1_dst0 HF0_1_dst1 HF0_1_dst2 HF0_1_dst3 HF0_1_dst4 HF0_1_dst5 HF0_1_dst6 HF0_1_dst7]
  · isplitl [HF0_1_dst0]; · iexact HF0_1_dst0
    isplitl [HF0_1_dst1]; · iexact HF0_1_dst1
    isplitl [HF0_1_dst2]; · iexact HF0_1_dst2
    isplitl [HF0_1_dst3]; · iexact HF0_1_dst3
    isplitl [HF0_1_dst4]; · iexact HF0_1_dst4
    isplitl [HF0_1_dst5]; · iexact HF0_1_dst5
    isplitl [HF0_1_dst6]; · iexact HF0_1_dst6
    iexact HF0_1_dst7
  isplitl [HI0_1_dst0 HI0_1_dst1 HI0_1_dst2 HI0_1_dst3 HI0_1_dst4 HI0_1_dst5 HI0_1_dst6 HI0_1_dst7]
  · isplitl [HI0_1_dst0]; · iexact HI0_1_dst0
    isplitl [HI0_1_dst1]; · iexact HI0_1_dst1
    isplitl [HI0_1_dst2]; · iexact HI0_1_dst2
    isplitl [HI0_1_dst3]; · iexact HI0_1_dst3
    isplitl [HI0_1_dst4]; · iexact HI0_1_dst4
    isplitl [HI0_1_dst5]; · iexact HI0_1_dst5
    isplitl [HI0_1_dst6]; · iexact HI0_1_dst6
    iexact HI0_1_dst7
  isplitl [HN0_1 HN0_1_src0 HN0_1_src1 HN0_1_src2 HN0_1_src3 HN0_1_src4 HN0_1_src5 HN0_1_src6 HN0_1_src7]
  · isplitl [HN0_1]; · iexact HN0_1
    isplitl [HN0_1_src0]; · iexact HN0_1_src0
    isplitl [HN0_1_src1]; · iexact HN0_1_src1
    isplitl [HN0_1_src2]; · iexact HN0_1_src2
    isplitl [HN0_1_src3]; · iexact HN0_1_src3
    isplitl [HN0_1_src4]; · iexact HN0_1_src4
    isplitl [HN0_1_src5]; · iexact HN0_1_src5
    isplitl [HN0_1_src6]; · iexact HN0_1_src6
    iexact HN0_1_src7
  isplitl [HI0_1 HI0_1_src0 HI0_1_src1 HI0_1_src2 HI0_1_src3 HI0_1_src4 HI0_1_src5 HI0_1_src6 HI0_1_src7]
  · isplitl [HI0_1]; · iexact HI0_1
    isplitl [HI0_1_src0]; · iexact HI0_1_src0
    isplitl [HI0_1_src1]; · iexact HI0_1_src1
    isplitl [HI0_1_src2]; · iexact HI0_1_src2
    isplitl [HI0_1_src3]; · iexact HI0_1_src3
    isplitl [HI0_1_src4]; · iexact HI0_1_src4
    isplitl [HI0_1_src5]; · iexact HI0_1_src5
    isplitl [HI0_1_src6]; · iexact HI0_1_src6
    iexact HI0_1_src7
  iexists _; iexact HW

end Cert.KernelIdeal.Out
-- ==== Proof.Launch.lean ====
module

public import proofs.«01_k».proof.Proof.RunFirst
public import proofs.«01_k».proof.Proof.RunSecond
public import proofs.«01_k».proof.Proof.RunMiddle
public import proofs.«01_k».proof.Proof.RunLast
public import Idealize.ShloMosaic.Lib.Pipeline.FrameValue

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

/-! ### The pieces of the result make up the whole of it -/

/-- Every element of the result lies in one of the 32 pieces: row `i` in piece `i % 4096 / 512` of step `i / 4096`. -/
theorem pieces_cover (i : S16384x128.Idx) : ∃ p, i ∈ wpieceSet0_1 p := by
  have h0 : (i 0).val < 16384 := (i 0).isLt
  have h1 : (i 1).val < 128 := (i 1).isLt
  refine ⟨(⟨(i 0).val / 4096, by omega⟩, ⟨(i 0).val % 4096 / 512, by omega⟩), Rect.mem_set_unit.2 fun a => ?_⟩
  fin_cases a
  · show 4096 * ((i 0).val / 4096) + 512 * ((i 0).val % 4096 / 512) ≤ (i 0).val
      ∧ (i 0).val < 4096 * ((i 0).val / 4096) + 512 * ((i 0).val % 4096 / 512) + 512
    omega
  · show 0 ≤ (i 1).val ∧ (i 1).val < 0 + 128
    omega

/-- Disjoint pieces that cover a buffer, all held at `f`, are the buffer at `f`. -/
theorem whole_of_pieces {ℓ : Loc nD τ sig} {T : Type} [Fintype T] (K : T → Finset (Idx ℓ)) (f : Buf (Elt F) ℓ)
    (hd : ∀ p p', p ≠ p' → Disjoint (K p) (K p')) (hc : ∀ i, ∃ p, i ∈ K p) :
    (bigSep Finset.univ fun p => iprop(ℓ ↦[K p]{fullShare} f) : sProp 𝕄) = iprop(ℓ ↦{fullShare} f) := by
  have h : (iprop(ℓ ↦[Finset.univ.biUnion K]{fullShare} f) : sProp 𝕄) = _ :=
    pointsTo_biUnion Finset.univ K fun p _ p' _ h => hd p p' h
  rw [← h, Finset.eq_univ_iff_forall.2 fun i => Finset.mem_biUnion.2 ((hc i).imp fun p hp => ⟨Finset.mem_univ p, hp⟩)]

/-- The 32 pieces held at `G`, step by step, are the whole result at `G`. -/
theorem pieces_whole (c : Dev nD) (G : Res (F := F) c) :
    (bigSep Finset.univ (held c G) : sProp 𝕄) = iprop(((c : Thread nD τ).loc main_v2) ↦{fullShare} G) := by
  rw [← BI.bigSep_congr fun u _ => held_eq c G u, ← BI.bigSep_univ_prod (fun i : Fin 4 × Fin 8 => wpieceP0_1 c i.1 i.2 G),
    BI.bigSep_congr fun i _ => wpieceP0_1_eq c i.1 i.2 G]
  exact whole_of_pieces (ℓ := (c : Thread nD τ).loc main_v2) wpieceSet0_1 G wpieces0_1_disjoint pieces_cover

/-! ### The invariant -/

variable (m : (ℓ : Loc nD τ sig) → Buf (Elt F) ℓ) (ρ : Dev nD → PrngReg) (G : (c : Dev nD) → Res (F := F) c)

/-- What is held before point `k`: the generator register; the ring of input slots; the ring of output groups, where a copy in flight
    will give its piece back at `G` and a piece already given back is at `G`; the output buffer's elements no tile covers. -/
def inv (c : Dev nD) (k : ℕ) : sProp 𝕄 :=
  iprop((∃ r, prngReg c r) ∗ ringAt0_0 c (V m c main_arg0) k
    ∗ Ring.AtBΦ 2 (wfree0_1 c) (flying c (G c)) (whome0_1 c) (held c (G c)) k ∗ wtileSpare0_1 c)

/-- The pipeline's proof data: every staged operand stays at its block, and `inv` is carried from point to point. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := inv m G c t.val
  q _ := fullShare
  owed _ := 0

theorem data_A (c : Dev nD) (w : Fin cfg0.W) : (data m G 0 c).A w = V m c (Pipeline.arrRef spec0 w) := by dsimp only [data]
theorem inv_here (c : Dev nD) (t : Fin cfg0.N) : (data m G 0 c).Φ t.castSucc = inv m G c t.val := by
  dsimp only [data]; simp only [Fin.coe_castSucc]
theorem inv_next (c : Dev nD) (t : Fin cfg0.N) : (data m G 0 c).Φ t.succ = inv m G c (t.val + 1) := by
  dsimp only [data]; simp only [Fin.val_succ]
theorem left_0 (c : Dev nD) (t : Fin cfg0.N) : (data m G 0 c).after 0 t = iblk m c 0 t := by dsimp only [data]
theorem left_1 (c : Dev nD) (t : Fin cfg0.N) : (data m G 0 c).after 1 t = iblk m c 1 t := by dsimp only [data]
theorem left_2 (c : Dev nD) (t : Fin cfg0.N) : (data m G 0 c).after 2 t = iblk m c 2 t := by dsimp only [data]
theorem left_3 (c : Dev nD) (t : Fin cfg0.N) : (data m G 0 c).after 3 t = iblk m c 3 t := by dsimp only [data]
theorem found_0 (c : Dev nD) (t : Fin cfg0.N) (d) : (data m G 0 c).before 0 t d = iblk m c 0 t :=
  before0_0_of m (data m G 0 c) (data_A m G c 0) (left_0 m G c) t d
theorem found_1 (c : Dev nD) (t : Fin cfg0.N) (d) : (data m G 0 c).before 1 t d = iblk m c 1 t :=
  before0_1_of m (data m G 0 c) (data_A m G c 1) (left_1 m G c) t d
theorem found_2 (c : Dev nD) (t : Fin cfg0.N) (d) : (data m G 0 c).before 2 t d = iblk m c 2 t :=
  before0_2_of m (data m G 0 c) (data_A m G c 2) (left_2 m G c) t d
theorem found_3 (c : Dev nD) (t : Fin cfg0.N) (d) : (data m G 0 c).before 3 t d = iblk m c 3 t :=
  before0_3_of m (data m G 0 c) (data_A m G c 3) (left_3 m G c) t d

/-! ### One point -/

/-- At every point, `G` says of that point's pieces what the body computes from the point's rows and the four staged operands. -/
abbrev Says_all : Prop := ∀ (c : Dev nD) (t : Fin cfg0.N),
  Says c (G c) (V m c main_arg0) (iblk m c 0 t) (iblk m c 1 t) (iblk m c 2 t) (iblk m c 3 t) (Ring.bk 4 t.val)

/-- The four staged operands of point `t`, at their blocks. -/
abbrev staged (c : Dev nD) (t : Fin cfg0.N) : sProp 𝕄 :=
  operands c (ms0_0 t) (ms0_1 t) (ms0_2 t) (ms0_3 t) (iblk m c 0 t) (iblk m c 1 t) (iblk m c 2 t) (iblk m c 3 t)

/-- What a point is to show: from the invariant before it and the staged operands, the body runs to the invariant after it. -/
abbrev Point (c : Dev nD) (t : Fin cfg0.N) : Prop :=
  iprop(inv m G c t.val ∗ (∃ W, owes (c : Thread nD τ) 0 W) ∗ staged m c t)
    ⊢ wp frame (wpE (defs₀ (F := F)) Variants.none c none) Set.univ (bodyAt0 t)
        (fun _ => iprop(inv m G c (t.val + 1) ∗ (∃ W', owes (c : Thread nD τ) 0 W') ∗ staged m c t))

variable {m G} (hG : Says_all m G)
include hG

set_option maxHeartbeats 1600000 in
/-- The first point takes the invariant on (`runFirst`). -/
theorem point_first (c : Dev nD) (t : Fin cfg0.N) (h : t.val = 0) : Point m G c t := by
  unfold Point inv ringAt0_0 bodyAt0
  rw [if_pos h, if_neg (show ¬t.val + 1 = 0 by omega)]
  rw [Ring.At₀_eq2' _ _ _ t.val h (by decide : 2 ≤ 4), Ring.AtK2_one' _ _ _ _ _ t.val h (by decide : 1 < 4)]
  rw [Ring.AtBΦ_lt _ _ _ _ _ t.val (by omega), Ring.AtB2_zero' 2 _ _ _ _ t.val h,
    Ring.AtBΦ_lt _ _ _ _ _ (t.val + 1) (by omega), Ring.AtB22_next_zero' _ _ _ _ t.val h]
  iintro ⟨⟨Hg, ⟨-, Hr, Hr'⟩, ⟨⟨Ho, Ha⟩, Hf, Hx⟩, Hsp⟩, ⟨%W, HW⟩, Hops⟩
  iapply (runFirst c (G c) t _ _ _ _ _ _ _ _ (iblk m c 0 t) (iblk m c 1 t) (iblk m c 2 t) (iblk m c 3 t) (V m c main_arg0)
    ((hcond0_0 t).mpr (by omega)) ((hcond0_1 t).mpr (by omega)) (fun h' => by have := (hcond0_2 t).mp h'; omega)
    (fun h' => by have := (hcond0_3 t).mp h'; omega) (hG c t) W _)
  isplitl [Hops]; · iexact Hops
  isplitl [Hr]; · iexact Hr
  isplitl [Hr']; · iexact Hr'
  isplitl [Ho]; · iexact Ho
  isplitl [Hf]; · iexact Hf
  isplitl [HW]; · iexact HW
  iintro ⟨Hops, Hfl, Hk, Hn, HW⟩
  isplitl [Hg Hfl Hk Ha Hx Hn Hsp]
  · isplitl [Hg]; · iexact Hg
    isplitl [Hfl Hk]
    · iapply Ring.with_homes₀
      isplitl [Hfl]; · iexact Hfl
      iexact Hk
    isplitl [Ha Hx Hn]
    · isplitl [Ha]; · iexact Ha
      isplitl [Hx]; · iexact Hx
      iexact Hn
    iexact Hsp
  isplitl [HW]; · iexact HW
  iexact Hops

set_option maxHeartbeats 1600000 in
/-- The second point takes it on (`runSecond`). -/
theorem point_second (c : Dev nD) (t : Fin cfg0.N) (h : t.val = 1) : Point m G c t := by
  unfold Point inv ringAt0_0 bodyAt0
  rw [if_neg (show ¬t.val = 0 by omega), if_neg (show ¬t.val + 1 = 0 by omega)]
  rw [Ring.AtK2_here _ _ _ _ _ t.val (by omega) (by omega), Ring.AtK2_next _ _ _ _ _ t.val (by omega) (by omega)]
  rw [Ring.AtBΦ_lt _ _ _ _ _ t.val (by omega), Ring.AtB22_one' _ _ _ _ t.val h (by decide),
    Ring.AtBΦ_lt _ _ _ _ _ (t.val + 1) (by omega), Ring.AtB22_next_one' _ _ _ _ t.val h]
  iintro ⟨⟨Hg, ⟨-, Hr, Hr'⟩, ⟨⟨Ho, Ha⟩, Hf, Hx⟩, Hsp⟩, ⟨%W, HW⟩, Hops⟩
  iapply (runSecond c (G c) t _ _ _ _ _ _ _ _ (iblk m c 0 t) (iblk m c 1 t) (iblk m c 2 t) (iblk m c 3 t) (V m c main_arg0)
    (fun h' => by have := (hcond0_0 t).mp h'; omega) ((hcond0_1 t).mpr (by omega)) (fun h' => by have := (hcond0_2 t).mp h'; omega)
    (fun h' => by have := (hcond0_3 t).mp h'; omega) (hG c t) W _)
  isplitl [Hops]; · iexact Hops
  isplitl [Hr]; · iexact Hr
  isplitl [Hr']; · iexact Hr'
  isplitl [Ho]; · iexact Ho
  isplitl [Hf]; · iexact Hf
  isplitl [HW]; · iexact HW
  iintro ⟨Hops, Hfl, Hk, Hn, HW⟩
  isplitl [Hg Hfl Hk Ha Hx Hn Hsp]
  · isplitl [Hg]; · iexact Hg
    isplitl [Hfl Hk]
    · iapply (Ring.with_homes (Idealize.SL.BI.Entails.refl _))
      isplitl [Hfl]; · iexact Hfl
      iexact Hk
    isplitl [Ha Hx Hn]
    · isplitl [Ha]; · iexact Ha
      isplitl [Hx]; · iexact Hx
      iexact Hn
    iexact Hsp
  isplitl [HW]; · iexact HW
  iexact Hops

set_option maxHeartbeats 1600000 in
/-- The third point takes it on (`runMiddle`). -/
theorem point_middle (c : Dev nD) (t : Fin cfg0.N) (h : t.val = 2) : Point m G c t := by
  unfold Point inv ringAt0_0 bodyAt0
  rw [if_neg (show ¬t.val = 0 by omega), if_neg (show ¬t.val + 1 = 0 by omega)]
  rw [Ring.AtK2_here _ _ _ _ _ t.val (by omega) (by omega), Ring.AtK2_next _ _ _ _ _ t.val (by omega) (by omega)]
  rw [Ring.AtBΦ_lt _ _ _ _ _ t.val (by omega), Ring.AtB22_here _ _ _ _ t.val (by omega) (by omega),
    Ring.AtBΦ_lt _ _ _ _ _ (t.val + 1) (by omega), Ring.AtB22_next _ _ _ _ t.val (by omega) (by omega)]
  iintro ⟨⟨Hg, ⟨-, Hr, Hr'⟩, ⟨⟨Ho, Ha⟩, Hb, Hf, Hx⟩, Hsp⟩, ⟨%W, HW⟩, Hops⟩
  iapply (runMiddle c (G c) t _ _ _ _ _ _ _ _ (iblk m c 0 t) (iblk m c 1 t) (iblk m c 2 t) (iblk m c 3 t) (V m c main_arg0)
    (fun h' => by have := (hcond0_0 t).mp h'; omega) ((hcond0_1 t).mpr (by omega)) ((hcond0_2 t).mpr (by omega))
    (fun h' => by have := (hcond0_3 t).mp h'; omega) (hG c t) W _)
  isplitl [Hops]; · iexact Hops
  isplitl [Hr]; · iexact Hr
  isplitl [Hr']; · iexact Hr'
  isplitl [Ho]; · iexact Ho
  isplitl [Hf]; · iexact Hf
  isplitl [HW]; · iexact HW
  iintro ⟨Hops, Hfl, Hk, Hd, Hn, HW⟩
  isplitl [Hg Hfl Hk Ha Hb Hd Hx Hn Hsp]
  · isplitl [Hg]; · iexact Hg
    isplitl [Hfl Hk]
    · iapply (Ring.with_homes (Idealize.SL.BI.Entails.refl _))
      isplitl [Hfl]; · iexact Hfl
      iexact Hk
    isplitl [Ha Hb Hd Hx Hn]
    · isplitl [Ha]; · iexact Ha
      isplitl [Hd Hb]
      · isplitl [Hd]; · iexact Hd
        iexact Hb
      isplitl [Hx]; · iexact Hx
      iexact Hn
    iexact Hsp
  isplitl [HW]; · iexact HW
  iexact Hops

set_option maxHeartbeats 1600000 in
/-- The last point takes it on (`runLast`). -/
theorem point_last (c : Dev nD) (t : Fin cfg0.N) (h : t.val = 3) : Point m G c t := by
  unfold Point inv ringAt0_0 bodyAt0
  have hend : t.val + 1 = 4 := by omega
  rw [if_neg (show ¬t.val = 0 by omega), if_neg (show ¬t.val + 1 = 0 by omega)]
  rw [Ring.AtK2_here_last _ _ _ _ _ t.val (by omega) hend, Ring.AtK2_next_last _ _ _ _ _ t.val (by omega) hend]
  rw [Ring.AtBΦ_lt _ _ _ _ _ t.val (by omega), Ring.AtB22_here_last _ _ _ _ t.val (by omega) hend,
    Ring.AtBΦ_end _ _ _ _ _ (t.val + 1) hend, Ring.AtB22_drained _ _ t.val (by omega) hend]
  iintro ⟨⟨Hg, ⟨-, Hr, Hr'⟩, ⟨Ho, Hb, Hf, Hx⟩, Hsp⟩, ⟨%W, HW⟩, Hops⟩
  iapply (runLast c (G c) t _ _ _ _ _ _ _ _ (iblk m c 0 t) (iblk m c 1 t) (iblk m c 2 t) (iblk m c 3 t) (V m c main_arg0)
    (fun h' => by have := (hcond0_0 t).mp h'; omega) (fun h' => by have := (hcond0_1 t).mp h'; omega) ((hcond0_2 t).mpr (by omega))
    ((hcond0_3 t).mpr (by omega)) (hG c t) W _)
  isplitl [Hops]; · iexact Hops
  isplitl [Hr]; · iexact Hr
  isplitl [Ho]; · iexact Ho
  isplitl [Hf]; · iexact Hf
  isplitl [Hx]; · iexact Hx
  isplitl [HW]; · iexact HW
  iintro ⟨Hops, Hk, Hd, Hd', Hd'', Hf, Hf', HW⟩
  isplitl [Hg Hr' Hk Hb Hd Hd' Hd'' Hf Hf' Hsp]
  · isplitl [Hg]; · iexact Hg
    isplitl [Hr' Hk]
    · iapply (Ring.with_homes (Idealize.SL.BI.Entails.refl _))
      isplitl [Hr']; · iexact Hr'
      iexact Hk
    isplitl [Hb Hd Hd' Hd'' Hf Hf']
    · isplitl [Hb Hd Hd' Hd'']
      · isplitl [Hd]; · iexact Hd
        isplitl [Hd']; · iexact Hd'
        isplitl [Hd'']; · iexact Hd''
        iexact Hb
      isplitl [Hf]; · iexact Hf
      iexact Hf'
    iexact Hsp
  isplitl [HW]; · iexact HW
  iexact Hops

/-- Every point takes the invariant on. -/
theorem point (c : Dev nD) (t : Fin cfg0.N) : Point m G c t := by
  have hN : t.val < 4 := lt_of_lt_of_eq t.isLt (show cfg0.N = 4 from N_0)
  rcases (show t.val = 0 ∨ t.val = 1 ∨ t.val = 2 ∨ t.val = 3 by omega) with h | h | h | h
  · exact point_first hG c t h
  · exact point_second hG c t h
  · exact point_middle hG c t h
  · exact point_last hG c t h

/-! ### The launch -/

/-- A point, as the pipeline asks for it. -/
theorem point_obligation (c : Dev nD) (t : Fin cfg0.N) :
    iprop((data m G 0 c).Φ t.castSucc ∗ (data m G 0 c).owesAt () t.castSucc
        ∗ (∃ d, owns (c : Thread nD τ) (ms0_0 t) fullShare ((data m G 0 c).before 0 t d))
        ∗ (∃ d, owns (c : Thread nD τ) (ms0_1 t) fullShare ((data m G 0 c).before 1 t d))
        ∗ (∃ d, owns (c : Thread nD τ) (ms0_2 t) fullShare ((data m G 0 c).before 2 t d))
        ∗ (∃ d, owns (c : Thread nD τ) (ms0_3 t) fullShare ((data m G 0 c).before 3 t d)))
      ⊢ wp frame (wpE (defs₀ (F := F)) Variants.none c none) Set.univ (bodyAt0 t) (fun _ =>
        iprop((data m G 0 c).Φ t.succ ∗ (data m G 0 c).owesAt () t.succ
          ∗ owns (c : Thread nD τ) (ms0_0 t) fullShare ((data m G 0 c).after 0 t)
          ∗ owns (c : Thread nD τ) (ms0_1 t) fullShare ((data m G 0 c).after 1 t)
          ∗ owns (c : Thread nD τ) (ms0_2 t) fullShare ((data m G 0 c).after 2 t)
          ∗ owns (c : Thread nD τ) (ms0_3 t) fullShare ((data m G 0 c).after 3 t))) := by
  simp only [found_0, found_1, found_2, found_3]
  rw [left_0, left_1, left_2, left_3, inv_here m G c t, inv_next m G c t]
  unfold Dat.owesAt Pipeline.owesWithin
  rw [show (data m G 0 c).owed t.castSucc = 0 from rfl, show (data m G 0 c).owed t.succ = 0 from rfl]
  refine BIBase.Entails.trans ?_ ((point hG c t).trans (wp_mono _ _ _ fun _ => ?_))
  · iintro ⟨Hi, ⟨%W, -, HW⟩, ⟨%d0, H0⟩, ⟨%d1, H1⟩, ⟨%d2, H2⟩, ⟨%d3, H3⟩⟩
    isplitl [Hi]; · iexact Hi
    isplitl [HW]; · iexists W; iexact HW
    isplitl [H0]; · iexact H0
    isplitl [H1]; · iexact H1
    isplitl [H2]; · iexact H2
    iexact H3
  · iintro ⟨Hi, ⟨%W, HW⟩, Hops⟩
    isplitl [Hi]; · iexact Hi
    isplitl [HW]
    · iexists W; isplitr; · ipureintro; exact fun _ _ => Or.inl trivial
      iexact HW
    iexact Hops

theorem obligation (c : Dev nD) : BodyObligation (data m G 0 c) (defs₀ (F := F)) Variants.none () Set.univ := fun t => by
  rw [bigSep_W0, bigSep_W0, defs₀_row]
  exact triple_restated (point_obligation hG c t) rfl .rfl fun _ => .rfl

omit hG

variable (m G)

/-- What each buffer is to hold at the end, of those the body writes by its own copies: the result holds `G`. -/
def final (c : Dev nD) : (b : Ref sig .tc) → Buf (Elt F) ((c.tc : Thread nD τ).loc b) := Function.update (V m c) main_v2 (G c)

theorem final_result (c : Dev nD) : final m G c main_v2 = G c := Function.update_self ..

/-- What the launch hands over and takes back, the result being at contents `R` of the right kind. -/
theorem ends (R : (c : Dev nD) → (b : Ref sig .tc) → Buf (Elt F) ((c.tc : Thread nD τ).loc b)) (c : Dev nD) :
    (Pipeline.ΦDRG osem0 spec0 H0 R0 (V m) R c : sProp 𝕄)
      = iprop(((∃ d, owns (c : Thread nD τ) scM0_0 fullShare d) ∗ ∃ d, owns (c : Thread nD τ) scM0_1 fullShare d)
          ∗ (∃ r, prngReg c r)
          ∗ (semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0)
          ∗ hbPt0 c hbM0_0 (V m c main_arg0) ∗ (((c : Thread nD τ).loc main_v2) ↦{fullShare} R c main_v2)) := by
  rw [Pipeline.ΦDRG_eq, scopedRest0_eq, ownSems00_eq, hbmPts0_eq, show R0 = {main_v2} from rfl, Pipeline.routed_singleton]
  simp only [scM0_0, scM0_1, owns_whole]
  try rfl

theorem enter (c : Dev nD) : Pipeline.ΦDRG osem0 spec0 H0 R0 (V m) (V m) c ⊢ (data m G 0 c).Φ 0 := by
  rw [ends, show (data m G 0 c).Φ 0 = inv m G c 0 from rfl]
  unfold inv
  have hw := wring0_1_in (F := F) c
  unfold wringAt0_1 at hw
  rw [Ring.AtBΦ_lt _ _ _ _ _ 0 (by decide), Ring.AtB_zero] at hw
  rw [Ring.AtBΦ_lt _ _ _ _ _ 0 (by decide), Ring.AtB_zero]
  iintro ⟨⟨HS, HS'⟩, Hg, ⟨Hq0, Hq1, Hq2, Hq3⟩, Hx, Ho⟩
  isplitl [Hg]; · iexact Hg
  isplitl [HS Hq0 Hq1 Hx]
  · iapply (ring0_0_in (F := F) m c)
    isplitl [HS]; · iexact HS
    isplitl [Hq0 Hq1]
    · isplitl [Hq0]; · iexact Hq0
      iexact Hq1
    iexact Hx
  ihave Hw := hw $$ [HS' Hq2 Hq3 Ho]
  · isplitl [HS']; · iexact HS'
    isplitl [Hq2 Hq3]
    · isplitl [Hq2]; · iexact Hq2
      iexact Hq3
    iexists _; iexact Ho
  icases Hw with ⟨Hw, Hsp, -⟩
  isplitl [Hw]; · iexact Hw
  iexact Hsp

theorem leave (c : Dev nD) : (data m G 0 c).Φ (Fin.last cfg0.N) ⊢ Pipeline.ΦDRG osem0 spec0 H0 R0 (V m) (final m G) c := by
  rw [ends, final_result, show (data m G 0 c).Φ (Fin.last cfg0.N) = inv m G c grid0.N from rfl]
  unfold inv
  rw [show grid0.N = 4 by rw [N_0], Ring.AtBΦ_ge _ _ _ _ _ 4 (by decide), Ring.AtBEnd_frame]
  unfold Ring.AtB₀
  rw [pieces_whole, ← wfrees0_1_eq, wcells0_1_eq]
  iintro ⟨Hg, Hr, ⟨Ho, Hq, HT⟩, Hsp⟩
  ihave Hr' := (ring0_0_out (F := F) m c) $$ Hr
  icases Hr' with ⟨HS, ⟨Hq0, Hq1⟩, Hx⟩
  icases Hq with ⟨Hq2, Hq3⟩
  isplitl [HS HT Hsp]
  · isplitl [HS]; · iexact HS
    iapply (wtiles0_1_out (F := F) c)
    isplitl [HT]; · iexact HT
    iexact Hsp
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hx]; · iexact Hx
  iexact Ho

variable {m G}
include hG

set_option backward.isDefEq.respectTransparency.types false in
/-- The launch: at every end the pipeline's arrays are as the proof data say, and the result is at `G`. -/
theorem launch_ends : θ_run defs (onTc (τ := τ) (main (F := F))) (s₀ m ρ)
    (fun r => (Pipeline.FramePostRG cfgs (data m G) 0 R0 (V m) (final m G)) r ∧ r.2.sem = fun _ => 0) :=
  Pipeline.θ_run_frame_dmaRG (Q' := _) cfgs (data m G) (0 : Fin 1) launch0 osem0 defs₀ Variants.none ownSemFacts0 H0 R0 H0_sub R0_sub m ρ main
    (hbody := fun c => (obligation hG c).loose) (hshare := fun c => (data m G 0 c).share_full fun _ => rfl)
    (howed := fun _ _ => rfl) (V := V m) (hmain := hmain m Variants.none) (hA := data_A m G) (G := final m G)
    (hin := enter m G) (hout := leave m G)

/-- From any memory, when `G` says of every piece what the body computes of it: every run ends with the result at `G` and the arguments
    unchanged. -/
theorem run_result : θ_run defs (onTc (τ := τ) (main (F := F))) ⟨m, fun _ => 0, ρ⟩ (fun r => ∀ c : Dev nD,
      r.2.mem ((c.tc : Thread nD τ).loc main_v2) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hargs := frame_of m ρ (data m G) (data_A m G) ((θ_run defs _ _).mono (fun _ h => h.1.toR) (launch_ends ρ hG))
  refine (θ_run defs _ _).mono (fun r h c => ⟨?_, h.2 c⟩) (θ_run_and (launch_ends ρ hG) hargs)
  exact (h.1.1.written c (b := main_v2) (by rw [show R0 = {main_v2} from rfl]; exact Finset.mem_singleton_self _)).trans (final_result m G c)

end Cert.KernelIdeal.Out
-- ==== Proof.Result.lean ====
module

public import proofs.«01_k».proof.Proof.Block
public import proofs.«01_k».proof.Proof.Launch
public import Idealize.ShloMosaic.Lib.StableHlo.Run

@[expose] public section

set_option maxRecDepth 16384

noncomputable section

namespace Cert.KernelIdeal.Out

open Idealize.ShloMosaic Idealize.ShloMosaic.TcCoe Idealize.ShloMosaic.ValueIdx
open Idealize.SL.Sem
open Cert.KernelIdeal.Gen Cert.Layers

/-! ### What the four staged operands hold: each is its whole array, at every point -/

section Operands

variable {F : FTy → Type} [FloatOps F] (m : (ℓ : Loc nD τ sig) → Buf (Elt F) ℓ) (c : Dev nD) (t : Fin cfg0.N)

/-- The first weights, staged whole. -/
theorem operand_0 : iblk m c 0 t = (m ((c : Thread nD τ).loc main_arg2) : S256x512.Idx → Elt F .f32) :=
  (Memref.read_access_unit_zero (Elt F) main_arg2
    (show (fun a => win0_0.index t a * main_arg2.ty.shape.size a) = fun _ => 0 from funext fun a => by fin_cases a <;> rfl)
    (fun a => by fin_cases a <;> exact Nat.le_of_eq (Nat.zero_add _)) (V m c main_arg2)).trans (V_main_arg2 m c)

/-- The second weights, staged whole. -/
theorem operand_2 : iblk m c 2 t = (m ((c : Thread nD τ).loc main_arg4) : S512x128.Idx → Elt F .f32) :=
  (Memref.read_access_unit_zero (Elt F) main_arg4
    (show (fun a => win0_2.index t a * main_arg4.ty.shape.size a) = fun _ => 0 from funext fun a => by fin_cases a <;> rfl)
    (fun a => by fin_cases a <;> exact Nat.le_of_eq (Nat.zero_add _)) (V m c main_arg4)).trans (V_main_arg4 m c)

/-- The first bias, laid out by the host as one row. -/
theorem row_0 : V m c main_v0 = shapeCast S1x512 (m ((c : Thread nD τ).loc main_arg3)) shapeCasts_S512_S1x512 := by
  unfold V
  after_results
  rfl

/-- The second bias, likewise. -/
theorem row_1 : V m c main_v1 = shapeCast S1x128 (m ((c : Thread nD τ).loc main_arg5)) shapeCasts_S128_S1x128 := by
  unfold V
  after_results
  rfl

/-- The first bias, staged as one row, read at column `k`. -/
theorem operand_1 (k : Fin 512) : (iblk m c 1 t : S1x512.Idx → Elt F .f32) (ix2 (0 : Fin 1) k)
    = (m ((c : Thread nD τ).loc main_arg3) : S512.Idx → Elt F .f32) (ix1 k) := by
  have h := (Memref.read_access_unit_zero (Elt F) main_v0
    (show (fun a => win0_1.index t a * main_v0.ty.shape.size a) = fun _ => 0 from funext fun a => by fin_cases a <;> rfl)
    (fun a => by fin_cases a <;> exact Nat.le_of_eq (Nat.zero_add _)) (V m c main_v0)).trans (row_0 m c)
  exact (congrFun h (ix2 (0 : Fin 1) k)).trans (shapeCast_a_1a_apply _ shapeCasts_S512_S1x512 0 k)

/-- The second bias, likewise. -/
theorem operand_3 (k : Fin 128) : (iblk m c 3 t : S1x128.Idx → Elt F .f32) (ix2 (0 : Fin 1) k)
    = (m ((c : Thread nD τ).loc main_arg5) : S128.Idx → Elt F .f32) (ix1 k) := by
  have h := (Memref.read_access_unit_zero (Elt F) main_v1
    (show (fun a => win0_3.index t a * main_v1.ty.shape.size a) = fun _ => 0 from funext fun a => by fin_cases a <;> rfl)
    (fun a => by fin_cases a <;> exact Nat.le_of_eq (Nat.zero_add _)) (V m c main_v1)).trans (row_1 m c)
  exact (congrFun h (ix2 (0 : Fin 1) k)).trans (shapeCast_a_1a_apply _ shapeCasts_S128_S1x128 0 k)

end Operands

/-! ### Which rows of the arrays a piece and a tile are -/

/-- Row `p` of tile `k` of block `u`, as a row of the whole array. -/
def row (u : Fin 4) (k : Fin 8) (p : Fin 512) : Fin 16384 :=
  ⟨4096 * u.val + 512 * k.val + p.val, by have := u.isLt; have := k.isLt; have := p.isLt; omega⟩

/-- Piece `k` of step `u` of the result is the rows `row u k`. -/
theorem piece_at {F : FTy → Type} [FloatOps F] (c : Dev nD) (G : Res (F := F) c) (u : Fin 4) (k : Fin 8) (j : S512x128.Idx) :
    (wpiece0_1 u k).view.read (Elt F) G j = (G : S16384x128.Idx → Elt F .f32) (ix2 (row u k (j 0)) (j 1)) := by
  show (G : S16384x128.Idx → Elt F .f32)
    ((Rect.unit (s := S16384x128) ![4096 * u.val + 512 * k.val, 0] S512x128.size (inb_wpiece0_1 u k)).emb j) = _
  refine congrArg (G : S16384x128.Idx → Elt F .f32) (funext fun a => Fin.ext ?_)
  fin_cases a
  · show 4096 * u.val + 512 * k.val + 1 * (j 0).val = 4096 * u.val + 512 * k.val + (j 0).val
    omega
  · show 0 + 1 * (j 1).val = (j 1).val
    omega

/-- Tile `k` of block `u` of the input is the rows `row u k`. -/
theorem tile_at {F : FTy → Type} [FloatOps F] (c : Dev nD) (x : HbBuf0 (F := F) c hbM0_0) (u : Fin 4) (k : Fin 8) (p : Fin 512) (j : Fin 256) :
    rows c x u k (ix3 (0 : Fin 1) p j) = (x : S16384x256.Idx → Elt F .f32) (ix2 (row u k p) j) := by
  have hu := u.isLt
  have hk := k.isLt
  have hp := p.isLt
  refine congrArg (x : S16384x256.Idx → Elt F .f32) (funext fun a => Fin.ext ?_)
  fin_cases a
  · show 4096 * u.val + 1 * (512 * k.val + p.val) = 4096 * u.val + 512 * k.val + p.val
    omega
  · show 0 + 1 * j.val = j.val
    omega

/-! ### The result -/

variable (m : (ℓ : Loc nD τ sig) → Buf (Elt Ideal) ℓ) (ρ : Dev nD → PrngReg)

/-- The result the kernel is to leave on core `c`: at row `r` and column `o`, the two layers on row `r` of the input, entry `o`. -/
def result (c : Dev nD) : Res (F := Ideal) c := fun (i : S16384x128.Idx) =>
  layer₂ (fun j => (m ((c : Thread nD τ).loc main_arg0) : S16384x256.Idx → EReal) (ix2 (i 0) j))
    (m ((c : Thread nD τ).loc main_arg2) : S256x512.Idx → EReal)
    (fun k => (m ((c : Thread nD τ).loc main_arg3) : S512.Idx → EReal) (ix1 k))
    (m ((c : Thread nD τ).loc main_arg4) : S512x128.Idx → EReal)
    (fun k => (m ((c : Thread nD τ).loc main_arg5) : S128.Idx → EReal) (ix1 k)) (i 1)

/-- At every point, the body computes of its rows what `result` says of its pieces. -/
theorem result_says : Says_all m (result m) := by
  intro c t k j
  rw [piece_at, V_main_arg0, operand_0 m c t, operand_2 m c t]
  refine Eq.trans ?_ (mlp_apply _ _ _ _ _ (j 0) (j 1)).symm
  show layer₂ _ _ _ _ _ _ = _
  congr 1
  · funext q; exact (tile_at c _ _ k (j 0) q).symm
  · funext q; exact (operand_1 m c t q).symm
  · funext q; exact (operand_3 m c t q).symm

/-- Every run of the kernel ends with the result array at `result` and the arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_result ρ (result_says m)

end Cert.KernelIdeal.Out
-- ==== Proof.Agree.lean ====
module

public import proofs.«01_k».proof.Proof.Plain
public import proofs.«01_k».proof.Proof.Result

@[expose] public section

set_option maxRecDepth 16384

noncomputable section

namespace Cert.Proof

open Idealize.ShloMosaic Idealize.ShloMosaic.TcCoe Idealize.ShloMosaic.ValueIdx

/-- The equation of the certificate: the array the reference computes of the kernel's arguments is the array the kernel leaves. Both are,
    at row `r` and column `o`, the two layers on row `r` of the input, entry `o`. -/
theorem agree (m : (ℓ : Loc KernelIdeal.nD KernelIdeal.τ KernelIdeal.sig) → Buf (Elt Ideal) ℓ) (c : Dev KernelIdeal.nD) :
    ReferenceIdeal.Plain.value (m ((c : Thread KernelIdeal.nD KernelIdeal.τ).loc KernelIdeal.main_arg0))
      (m ((c : Thread KernelIdeal.nD KernelIdeal.τ).loc KernelIdeal.main_arg2)) (m ((c : Thread KernelIdeal.nD KernelIdeal.τ).loc KernelIdeal.main_arg3))
      (m ((c : Thread KernelIdeal.nD KernelIdeal.τ).loc KernelIdeal.main_arg4)) (m ((c : Thread KernelIdeal.nD KernelIdeal.τ).loc KernelIdeal.main_arg5))
    = KernelIdeal.Out.result m c := by
  funext i
  rw [eq_ix2 i]
  exact ReferenceIdeal.Plain.value_apply _ _ _ _ _ (i 0) (i 1)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel as printed, at the bit-exact floats: it runs, and leaves its arguments and its counters as they were. -/
theorem frame_kernel : Cert.quiescent_Kernel (hKernel := Cert.Kernel.Gen.facts) := fun m ρ _ => Cert.Kernel.Gen.frame m ρ

/-- The same of the idealized kernel. -/
theorem frame_kernelIdeal : Cert.quiescent_KernelIdeal (hKernelIdeal := Cert.KernelIdeal.Gen.facts) := fun m ρ _ => Cert.KernelIdeal.Gen.frame m ρ

/-- The same of the reference: its run keeps the arguments, and it has no counter that could differ from zero. -/
theorem frame_referenceIdeal : Cert.quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems (by decide) r.2⟩

/-- From memories that agree on the arguments, the idealized kernel and the reference end with the same result: the array
    `KernelIdeal.Out.result`, which every run of the kernel leaves (`Out.run`) and which the reference's term is (`agree`). -/
theorem algebraic : Cert.algebraic_KernelIdeal_ReferenceIdeal (hKernelIdeal := Cert.KernelIdeal.Gen.facts)
    (hReferenceIdeal := Cert.ReferenceIdeal.Gen.facts) := by
  intro m ρ m' ρ' _ same
  refine ⟨Cert.KernelIdeal.Out.result m, Cert.KernelIdeal.Out.run m ρ, ?_⟩
  refine θ_run_mono (Cert.ReferenceIdeal.Value.run (F := Ideal) m' ρ') fun r h c => ⟨(h c).1.trans ?_, (h c).2⟩
  obtain ⟨h0, _, h2, h3, h4, h5⟩ := same c
  rw [h0, h2, h3, h4, h5]
  exact agree m c

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
